-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x64 .bf16) (main_arg2 : IVec S512x1 32) (main_arg3 : FVec F S2x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_in_range_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x64 .bf16) (main_arg2 : IVec S512x1 32) (main_arg3 : FVec F S64x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512x512 : Shape := ⟨2, ![512, 512]⟩
abbrev S32x12x512 : Shape := ⟨3, ![32, 12, 512]⟩
abbrev S31 : Shape := ⟨1, ![31]⟩
abbrev S_ : Shape := ⟨0, ![]⟩
abbrev S512x64 : Shape := ⟨2, ![512, 64]⟩
abbrev S512 : Shape := ⟨1, ![512]⟩
abbrev S512x12 : Shape := ⟨2, ![512, 12]⟩
abbrev S12x256 : Shape := ⟨2, ![12, 256]⟩
abbrev S6x256 : Shape := ⟨2, ![6, 256]⟩
abbrev S1x256x512 : Shape := ⟨3, ![1, 256, 512]⟩
abbrev S256x512 : Shape := ⟨2, ![256, 512]⟩
abbrev S6x512 : Shape := ⟨2, ![6, 512]⟩
abbrev S12x512 : Shape := ⟨2, ![12, 512]⟩
abbrev S1x12x512 : Shape := ⟨3, ![1, 12, 512]⟩
abbrev S1 : Shape := ⟨1, ![1]⟩
abbrev S512x384 : Shape := ⟨2, ![512, 384]⟩
abbrev S384x512 : Shape := ⟨2, ![384, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S2x256x512, .bf16⟩
  | .hbm, ⟨4, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .bf16⟩
  | .local _ .vmem, ⟨4, _⟩ => ⟨S32x12x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v178 : Index := Scalar.indexCast v2
  let c0_137 : Index := 0#32
  let c0_138 : Index := 0#32
  ![v178.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let c0_i32_147 : BitVec 32 := 0#32
  ![v2.toNat, 0, 0]
def k0_dev32 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_140 : BitVec 32 := 1#32
  let v182 : BitVec 32 := Scalar.addi v2 c1_i32_140
  let c32_i32_141 : BitVec 32 := 32#32
  let v183 : BitVec 32 := Scalar.remsi v182 c32_i32_141
  let c1_i32_144 : BitVec 32 := 1#32
  let v184 : BitVec 32 := Scalar.muli v183 c1_i32_144
  let v185 : BitVec 32 := Scalar.addi c0_i32_145 v184
  v185.toNat
def k0_dev33 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v194 : BitVec 32 := Scalar.addi v2 c2_i32_150
  let c32_i32_151 : BitVec 32 := 32#32
  let v195 : BitVec 32 := Scalar.remsi v194 c32_i32_151
  let c1_i32_154 : BitVec 32 := 1#32
  let v196 : BitVec 32 := Scalar.muli v195 c1_i32_154
  let v197 : BitVec 32 := Scalar.addi c0_i32_155 v196
  v197.toNat
def k0_dev34 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_160 : BitVec 32 := 3#32
  let v206 : BitVec 32 := Scalar.addi v2 c3_i32_160
  let c32_i32_161 : BitVec 32 := 32#32
  let v207 : BitVec 32 := Scalar.remsi v206 c32_i32_161
  let c1_i32_164 : BitVec 32 := 1#32
  let v208 : BitVec 32 := Scalar.muli v207 c1_i32_164
  let v209 : BitVec 32 := Scalar.addi c0_i32_165 v208
  v209.toNat
def k0_dev35 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_170 : BitVec 32 := 4#32
  let v218 : BitVec 32 := Scalar.addi v2 c4_i32_170
  let c32_i32_171 : BitVec 32 := 32#32
  let v219 : BitVec 32 := Scalar.remsi v218 c32_i32_171
  let c1_i32_174 : BitVec 32 := 1#32
  let v220 : BitVec 32 := Scalar.muli v219 c1_i32_174
  let v221 : BitVec 32 := Scalar.addi c0_i32_175 v220
  v221.toNat
def k0_dev36 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_180 : BitVec 32 := 5#32
  let v230 : BitVec 32 := Scalar.addi v2 c5_i32_180
  let c32_i32_181 : BitVec 32 := 32#32
  let v231 : BitVec 32 := Scalar.remsi v230 c32_i32_181
  let c1_i32_184 : BitVec 32 := 1#32
  let v232 : BitVec 32 := Scalar.muli v231 c1_i32_184
  let v233 : BitVec 32 := Scalar.addi c0_i32_185 v232
  v233.toNat
def k0_dev37 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_190 : BitVec 32 := 6#32
  let v242 : BitVec 32 := Scalar.addi v2 c6_i32_190
  let c32_i32_191 : BitVec 32 := 32#32
  let v243 : BitVec 32 := Scalar.remsi v242 c32_i32_191
  let c1_i32_194 : BitVec 32 := 1#32
  let v244 : BitVec 32 := Scalar.muli v243 c1_i32_194
  let v245 : BitVec 32 := Scalar.addi c0_i32_195 v244
  v245.toNat
def k0_dev38 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_200 : BitVec 32 := 7#32
  let v254 : BitVec 32 := Scalar.addi v2 c7_i32_200
  let c32_i32_201 : BitVec 32 := 32#32
  let v255 : BitVec 32 := Scalar.remsi v254 c32_i32_201
  let c1_i32_204 : BitVec 32 := 1#32
  let v256 : BitVec 32 := Scalar.muli v255 c1_i32_204
  let v257 : BitVec 32 := Scalar.addi c0_i32_205 v256
  v257.toNat
def k0_dev39 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_210 : BitVec 32 := 8#32
  let v266 : BitVec 32 := Scalar.addi v2 c8_i32_210
  let c32_i32_211 : BitVec 32 := 32#32
  let v267 : BitVec 32 := Scalar.remsi v266 c32_i32_211
  let c1_i32_214 : BitVec 32 := 1#32
  let v268 : BitVec 32 := Scalar.muli v267 c1_i32_214
  let v269 : BitVec 32 := Scalar.addi c0_i32_215 v268
  v269.toNat
def k0_dev40 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_220 : BitVec 32 := 9#32
  let v278 : BitVec 32 := Scalar.addi v2 c9_i32_220
  let c32_i32_221 : BitVec 32 := 32#32
  let v279 : BitVec 32 := Scalar.remsi v278 c32_i32_221
  let c1_i32_224 : BitVec 32 := 1#32
  let v280 : BitVec 32 := Scalar.muli v279 c1_i32_224
  let v281 : BitVec 32 := Scalar.addi c0_i32_225 v280
  v281.toNat
def k0_dev41 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_230 : BitVec 32 := 10#32
  let v290 : BitVec 32 := Scalar.addi v2 c10_i32_230
  let c32_i32_231 : BitVec 32 := 32#32
  let v291 : BitVec 32 := Scalar.remsi v290 c32_i32_231
  let c1_i32_234 : BitVec 32 := 1#32
  let v292 : BitVec 32 := Scalar.muli v291 c1_i32_234
  let v293 : BitVec 32 := Scalar.addi c0_i32_235 v292
  v293.toNat
def k0_dev42 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_240 : BitVec 32 := 11#32
  let v302 : BitVec 32 := Scalar.addi v2 c11_i32_240
  let c32_i32_241 : BitVec 32 := 32#32
  let v303 : BitVec 32 := Scalar.remsi v302 c32_i32_241
  let c1_i32_244 : BitVec 32 := 1#32
  let v304 : BitVec 32 := Scalar.muli v303 c1_i32_244
  let v305 : BitVec 32 := Scalar.addi c0_i32_245 v304
  v305.toNat
def k0_dev43 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_250 : BitVec 32 := 12#32
  let v314 : BitVec 32 := Scalar.addi v2 c12_i32_250
  let c32_i32_251 : BitVec 32 := 32#32
  let v315 : BitVec 32 := Scalar.remsi v314 c32_i32_251
  let c1_i32_254 : BitVec 32 := 1#32
  let v316 : BitVec 32 := Scalar.muli v315 c1_i32_254
  let v317 : BitVec 32 := Scalar.addi c0_i32_255 v316
  v317.toNat
def k0_dev44 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_260 : BitVec 32 := 13#32
  let v326 : BitVec 32 := Scalar.addi v2 c13_i32_260
  let c32_i32_261 : BitVec 32 := 32#32
  let v327 : BitVec 32 := Scalar.remsi v326 c32_i32_261
  let c1_i32_264 : BitVec 32 := 1#32
  let v328 : BitVec 32 := Scalar.muli v327 c1_i32_264
  let v329 : BitVec 32 := Scalar.addi c0_i32_265 v328
  v329.toNat
def k0_dev45 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_270 : BitVec 32 := 14#32
  let v338 : BitVec 32 := Scalar.addi v2 c14_i32_270
  let c32_i32_271 : BitVec 32 := 32#32
  let v339 : BitVec 32 := Scalar.remsi v338 c32_i32_271
  let c1_i32_274 : BitVec 32 := 1#32
  let v340 : BitVec 32 := Scalar.muli v339 c1_i32_274
  let v341 : BitVec 32 := Scalar.addi c0_i32_275 v340
  v341.toNat
def k0_dev46 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_280 : BitVec 32 := 15#32
  let v350 : BitVec 32 := Scalar.addi v2 c15_i32_280
  let c32_i32_281 : BitVec 32 := 32#32
  let v351 : BitVec 32 := Scalar.remsi v350 c32_i32_281
  let c1_i32_284 : BitVec 32 := 1#32
  let v352 : BitVec 32 := Scalar.muli v351 c1_i32_284
  let v353 : BitVec 32 := Scalar.addi c0_i32_285 v352
  v353.toNat
def k0_dev47 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_290 : BitVec 32 := 16#32
  let v362 : BitVec 32 := Scalar.addi v2 c16_i32_290
  let c32_i32_291 : BitVec 32 := 32#32
  let v363 : BitVec 32 := Scalar.remsi v362 c32_i32_291
  let c1_i32_294 : BitVec 32 := 1#32
  let v364 : BitVec 32 := Scalar.muli v363 c1_i32_294
  let v365 : BitVec 32 := Scalar.addi c0_i32_295 v364
  v365.toNat
def k0_dev48 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_300 : BitVec 32 := 17#32
  let v374 : BitVec 32 := Scalar.addi v2 c17_i32_300
  let c32_i32_301 : BitVec 32 := 32#32
  let v375 : BitVec 32 := Scalar.remsi v374 c32_i32_301
  let c1_i32_304 : BitVec 32 := 1#32
  let v376 : BitVec 32 := Scalar.muli v375 c1_i32_304
  let v377 : BitVec 32 := Scalar.addi c0_i32_305 v376
  v377.toNat
def k0_dev49 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_310 : BitVec 32 := 18#32
  let v386 : BitVec 32 := Scalar.addi v2 c18_i32_310
  let c32_i32_311 : BitVec 32 := 32#32
  let v387 : BitVec 32 := Scalar.remsi v386 c32_i32_311
  let c1_i32_314 : BitVec 32 := 1#32
  let v388 : BitVec 32 := Scalar.muli v387 c1_i32_314
  let v389 : BitVec 32 := Scalar.addi c0_i32_315 v388
  v389.toNat
def k0_dev50 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_320 : BitVec 32 := 19#32
  let v398 : BitVec 32 := Scalar.addi v2 c19_i32_320
  let c32_i32_321 : BitVec 32 := 32#32
  let v399 : BitVec 32 := Scalar.remsi v398 c32_i32_321
  let c1_i32_324 : BitVec 32 := 1#32
  let v400 : BitVec 32 := Scalar.muli v399 c1_i32_324
  let v401 : BitVec 32 := Scalar.addi c0_i32_325 v400
  v401.toNat
def k0_dev51 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_330 : BitVec 32 := 20#32
  let v410 : BitVec 32 := Scalar.addi v2 c20_i32_330
  let c32_i32_331 : BitVec 32 := 32#32
  let v411 : BitVec 32 := Scalar.remsi v410 c32_i32_331
  let c1_i32_334 : BitVec 32 := 1#32
  let v412 : BitVec 32 := Scalar.muli v411 c1_i32_334
  let v413 : BitVec 32 := Scalar.addi c0_i32_335 v412
  v413.toNat
def k0_dev52 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_340 : BitVec 32 := 21#32
  let v422 : BitVec 32 := Scalar.addi v2 c21_i32_340
  let c32_i32_341 : BitVec 32 := 32#32
  let v423 : BitVec 32 := Scalar.remsi v422 c32_i32_341
  let c1_i32_344 : BitVec 32 := 1#32
  let v424 : BitVec 32 := Scalar.muli v423 c1_i32_344
  let v425 : BitVec 32 := Scalar.addi c0_i32_345 v424
  v425.toNat
def k0_dev53 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_350 : BitVec 32 := 22#32
  let v434 : BitVec 32 := Scalar.addi v2 c22_i32_350
  let c32_i32_351 : BitVec 32 := 32#32
  let v435 : BitVec 32 := Scalar.remsi v434 c32_i32_351
  let c1_i32_354 : BitVec 32 := 1#32
  let v436 : BitVec 32 := Scalar.muli v435 c1_i32_354
  let v437 : BitVec 32 := Scalar.addi c0_i32_355 v436
  v437.toNat
def k0_dev54 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_360 : BitVec 32 := 23#32
  let v446 : BitVec 32 := Scalar.addi v2 c23_i32_360
  let c32_i32_361 : BitVec 32 := 32#32
  let v447 : BitVec 32 := Scalar.remsi v446 c32_i32_361
  let c1_i32_364 : BitVec 32 := 1#32
  let v448 : BitVec 32 := Scalar.muli v447 c1_i32_364
  let v449 : BitVec 32 := Scalar.addi c0_i32_365 v448
  v449.toNat
def k0_dev55 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_370 : BitVec 32 := 24#32
  let v458 : BitVec 32 := Scalar.addi v2 c24_i32_370
  let c32_i32_371 : BitVec 32 := 32#32
  let v459 : BitVec 32 := Scalar.remsi v458 c32_i32_371
  let c1_i32_374 : BitVec 32 := 1#32
  let v460 : BitVec 32 := Scalar.muli v459 c1_i32_374
  let v461 : BitVec 32 := Scalar.addi c0_i32_375 v460
  v461.toNat
def k0_dev56 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_380 : BitVec 32 := 25#32
  let v470 : BitVec 32 := Scalar.addi v2 c25_i32_380
  let c32_i32_381 : BitVec 32 := 32#32
  let v471 : BitVec 32 := Scalar.remsi v470 c32_i32_381
  let c1_i32_384 : BitVec 32 := 1#32
  let v472 : BitVec 32 := Scalar.muli v471 c1_i32_384
  let v473 : BitVec 32 := Scalar.addi c0_i32_385 v472
  v473.toNat
def k0_dev57 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_390 : BitVec 32 := 26#32
  let v482 : BitVec 32 := Scalar.addi v2 c26_i32_390
  let c32_i32_391 : BitVec 32 := 32#32
  let v483 : BitVec 32 := Scalar.remsi v482 c32_i32_391
  let c1_i32_394 : BitVec 32 := 1#32
  let v484 : BitVec 32 := Scalar.muli v483 c1_i32_394
  let v485 : BitVec 32 := Scalar.addi c0_i32_395 v484
  v485.toNat
def k0_dev58 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_400 : BitVec 32 := 27#32
  let v494 : BitVec 32 := Scalar.addi v2 c27_i32_400
  let c32_i32_401 : BitVec 32 := 32#32
  let v495 : BitVec 32 := Scalar.remsi v494 c32_i32_401
  let c1_i32_404 : BitVec 32 := 1#32
  let v496 : BitVec 32 := Scalar.muli v495 c1_i32_404
  let v497 : BitVec 32 := Scalar.addi c0_i32_405 v496
  v497.toNat
def k0_dev59 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_410 : BitVec 32 := 28#32
  let v506 : BitVec 32 := Scalar.addi v2 c28_i32_410
  let c32_i32_411 : BitVec 32 := 32#32
  let v507 : BitVec 32 := Scalar.remsi v506 c32_i32_411
  let c1_i32_414 : BitVec 32 := 1#32
  let v508 : BitVec 32 := Scalar.muli v507 c1_i32_414
  let v509 : BitVec 32 := Scalar.addi c0_i32_415 v508
  v509.toNat
def k0_dev60 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_420 : BitVec 32 := 29#32
  let v518 : BitVec 32 := Scalar.addi v2 c29_i32_420
  let c32_i32_421 : BitVec 32 := 32#32
  let v519 : BitVec 32 := Scalar.remsi v518 c32_i32_421
  let c1_i32_424 : BitVec 32 := 1#32
  let v520 : BitVec 32 := Scalar.muli v519 c1_i32_424
  let v521 : BitVec 32 := Scalar.addi c0_i32_425 v520
  v521.toNat
def k0_dev61 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_430 : BitVec 32 := 30#32
  let v530 : BitVec 32 := Scalar.addi v2 c30_i32_430
  let c32_i32_431 : BitVec 32 := 32#32
  let v531 : BitVec 32 := Scalar.remsi v530 c32_i32_431
  let c1_i32_434 : BitVec 32 := 1#32
  let v532 : BitVec 32 := Scalar.muli v531 c1_i32_434
  let v533 : BitVec 32 := Scalar.addi c0_i32_435 v532
  v533.toNat
def k0_dev62 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_440 : BitVec 32 := 31#32
  let v542 : BitVec 32 := Scalar.addi v2 c31_i32_440
  let c32_i32_441 : BitVec 32 := 32#32
  let v543 : BitVec 32 := Scalar.remsi v542 c32_i32_441
  let c1_i32_444 : BitVec 32 := 1#32
  let v544 : BitVec 32 := Scalar.muli v543 c1_i32_444
  let v545 : BitVec 32 := Scalar.addi c0_i32_445 v544
  v545.toNat
def k0_off3 (d0 : Dev nD) (c1_i32_451 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_450 : BitVec 32 := 32#32
  let v560 : BitVec 32 := Scalar.addi v2 c32_i32_450
  let v561 : BitVec 32 := Scalar.subi v560 c1_i32_451
  let c32_i32_452 : BitVec 32 := 32#32
  let v562 : BitVec 32 := Scalar.remsi v561 c32_i32_452
  let c0_i32_457 : BitVec 32 := 0#32
  let c0_i32_458 : BitVec 32 := 0#32
  ![v562.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1x64 : Shape := ⟨2, ![1, 64]⟩
abbrev S512x64 : Shape := ⟨2, ![512, 64]⟩
abbrev S_ : Shape := ⟨0, ![]⟩
abbrev S512x256x512 : Shape := ⟨3, ![512, 256, 512]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S512, .i32⟩
  | .hbm, ⟨5, _⟩ => ⟨S512x1, .i32⟩
  | .hbm, ⟨6, _⟩ => ⟨S1x64, .i32⟩
  | .hbm, ⟨7, _⟩ => ⟨S512x64, .i32⟩
  | .hbm, ⟨8, _⟩ => ⟨S512x64, .i32⟩
  | .hbm, ⟨9, _⟩ => ⟨S512x64, .i1⟩
  | .hbm, ⟨10, _⟩ => ⟨S512x64, .i32⟩
  | .hbm, ⟨11, _⟩ => ⟨S_, .i32⟩
  | .hbm, ⟨12, _⟩ => ⟨S_, .i32⟩
  | .hbm, ⟨13, _⟩ => ⟨S512x64, .i32⟩
  | .hbm, ⟨14, _⟩ => ⟨S512x64, .i32⟩
  | .hbm, ⟨15, _⟩ => ⟨S512x64, .i32⟩
  | .hbm, ⟨16, _⟩ => ⟨S_, .i32⟩
  | .hbm, ⟨17, _⟩ => ⟨S512, .i32⟩
  | .hbm, ⟨18, _⟩ => ⟨S512x256, .f32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512x256x512, .bf16⟩
  | .hbm, ⟨28, _⟩ => ⟨S512x256x512, .f32⟩
  | .hbm, ⟨29, _⟩ => ⟨S512x512, .f32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x512, .i1⟩
  | .hbm, ⟨37, _⟩ => ⟨S512x512, .f32⟩
  | .hbm, ⟨38, _⟩ => ⟨S512x512, .f32⟩
  | .hbm, ⟨39, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_call1_call0_c : Ref sig .tc := ⟨.hbm, 11, rfl⟩
abbrev main_call1_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.KernelIdeal.Ring.lean ====
/-
The kernel's body, read as five loops.

Every device greets its 31 peers (one signal on each peer's barrier semaphore), computes its own row of the gathered
buffer, waits for the 31 greetings, copies its row to every peer, waits for the 31 rows it is sent, combines them and
waits for its 31 copies to have left. The printed program has each of those steps 31 times in a row; here each is
written ONCE at a symbolic hop `j`, and `body_loops` says that the printed program is the five loops.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL.Sem

variable {F : FTy → Type} [FloatOps F]

/-! ## Hops and peers -/

/-- The 31 hops, in program order. -/
def hops : List (Fin 31) :=
  [0, 1, 2, 3, 4, 5, 6, 7, 8, 9, 10, 11, 12, 13, 14, 15, 16, 17, 18, 19, 20, 21, 22, 23, 24, 25, 26, 27, 28, 29, 30]

/-- The device `j + 1` places after `c` around the mesh. -/
def peer (c : Dev nD) (j : Fin 31) : Dev nD := ⟨(c.val + (j.val + 1)) % 32, Nat.mod_lt _ (by decide)⟩

/-- The device that hop `j` of `c` signals, as the program computes it. -/
def sigTab : Fin 31 → Dev nD → ℕ :=
  ![k0_dev1, k0_dev2, k0_dev3, k0_dev4, k0_dev5, k0_dev6, k0_dev7, k0_dev8, k0_dev9, k0_dev10, k0_dev11, k0_dev12,
    k0_dev13, k0_dev14, k0_dev15, k0_dev16, k0_dev17, k0_dev18, k0_dev19, k0_dev20, k0_dev21, k0_dev22, k0_dev23,
    k0_dev24, k0_dev25, k0_dev26, k0_dev27, k0_dev28, k0_dev29, k0_dev30, k0_dev31]

/-- The device that hop `j` of `c` copies to, as the program computes it. -/
def sendTab : Fin 31 → Dev nD → ℕ :=
  ![k0_dev32, k0_dev33, k0_dev34, k0_dev35, k0_dev36, k0_dev37, k0_dev38, k0_dev39, k0_dev40, k0_dev41, k0_dev42,
    k0_dev43, k0_dev44, k0_dev45, k0_dev46, k0_dev47, k0_dev48, k0_dev49, k0_dev50, k0_dev51, k0_dev52, k0_dev53,
    k0_dev54, k0_dev55, k0_dev56, k0_dev57, k0_dev58, k0_dev59, k0_dev60, k0_dev61, k0_dev62]

theorem sigTab_eq : ∀ (j : Fin 31) (c : Dev nD), sigTab j c = (peer c j).val := by decide +kernel

theorem sendTab_eq : ∀ (j : Fin 31) (c : Dev nD), sendTab j c = (peer c j).val := by decide +kernel

theorem sigTab_lt (j : Fin 31) (c : Dev nD) : sigTab j c < nD := sigTab_eq j c ▸ (peer c j).isLt

theorem sendTab_lt (j : Fin 31) (c : Dev nD) : sendTab j c < nD := sendTab_eq j c ▸ (peer c j).isLt

theorem hop_inb : ∀ (j : Fin 31) (a : Fin S31.rank), (![j.val] : Fin 1 → ℕ) a + S1.size a ≤ S31.size a := by decide

/-! ## One step of each loop -/

/-- A run of one operation per hop, then `k`. -/
def steps (op : Fin 31 → Prog (TpuEff nD τ sig (Elt F) Λ₀ .tc) PUnit) (l : List (Fin 31))
    (k : Prog (TpuEff nD τ sig (Elt F) Λ₀ .tc) PUnit) : Prog (TpuEff nD τ sig (Elt F) Λ₀ .tc) PUnit :=
  l.foldr (fun j k => op j >>= fun _ => k) k

/-- Semaphore `j` of one of the two arrays of 31. -/
def semAt (s : DmaSems sig S31) (j : Fin 31) : DmaSem sig :=
  ((s.slice (Rect.unit (s := S31) ![j.val] S1.size (hop_inb j))).squeeze S_ squeezes_S1_S_).sem

/-- Row `c` of the gathered buffer, as the copies name it. -/
def rowOf (a : Memref sig .tc .vmem S32x12x512 .bf16) (c : Dev nD) : Memref sig .tc .vmem S12x512 .bf16 :=
  (a.slice (Rect.unit (s := S32x12x512) (k0_off2 c) S1x12x512.size (k0_off2_inb c)) (fun _ => rfl)).squeeze S12x512
    squeezes_S1x12x512_S12x512

/-- The row that hop `j` of `c` receives, as the waits name it. -/
def rowIn (a : Memref sig .tc .vmem S32x12x512 .bf16) (c : Dev nD) (j : Fin 31) : Memref sig .tc .vmem S12x512 .bf16 :=
  (a.slice (Rect.unit (s := S32x12x512) (k0_off3 c (BitVec.ofNat 32 (1 + j.val))) S1x12x512.size (k0_off3_inb c j))
    (fun _ => rfl)).squeeze S12x512 squeezes_S1x12x512_S12x512

theorem rowOf_words (a : Memref sig .tc .vmem S32x12x512 .bf16) (h : a.IsWhole) (c : Dev nD) :
    (rowOf a c).view.WordExact :=
  (h.wordExact_slice rfl _ (k0_off2_wordsbf16 c)).reshape _ _

theorem rowIn_words (a : Memref sig .tc .vmem S32x12x512 .bf16) (h : a.IsWhole) (c : Dev nD) (j : Fin 31) :
    (rowIn a c j).view.WordExact :=
  (h.wordExact_slice rfl _ (k0_off3_wordsbf16 c j)).reshape _ _

/-- The runtime's barrier semaphore of the kernel's collective. -/
def barS : Sem sig := (SemArray.scalar (sig.barrier 0 rfl) : Sems sig S_).sem

/-- The device's place on the mesh as the program computes it. -/
def meWord (c : Dev nD) : BitVec 32 := Scalar.remsi (Scalar.divsi (Dev.word c) 1#32) 32#32

def signalStep (c : Dev nD) (j : Fin 31) : Prog (TpuEff nD τ sig (Elt F) Λ₀ .tc) PUnit :=
  semSignalWord ⟨sigTab j c, sigTab_lt j c⟩ barS 1#32

def sendStep (a : Memref sig .tc .vmem S32x12x512 .bf16) (h : a.IsWhole) (s5 s6 : DmaSems sig S31) (c : Dev nD)
    (j : Fin 31) : Prog (TpuEff nD τ sig (Elt F) Λ₀ .tc) PUnit :=
  Prog.lift (.enqueueDma (rowOf a c) (.remote (Dev.tc (⟨sendTab j c, sendTab_lt j c⟩ : Dev nD)) (rowOf a c)
    (.dma (semAt s5 j))) (.dma (semAt s6 j)) (rowOf_words a h c) (rowOf_words a h c) ⟨⟨rfl, Or.inl rfl⟩, trivial⟩)

def recvStep (a : Memref sig .tc .vmem S32x12x512 .bf16) (h : a.IsWhole) (s6 : DmaSems sig S31) (c : Dev nD)
    (j : Fin 31) : Prog (TpuEff nD τ sig (Elt F) Λ₀ .tc) PUnit :=
  Prog.lift (.waitDma2 (semAt s6 j) (rowIn a c j) (rowIn a c j) (rowIn_words a h c j) (rowIn_words a h c j))

def drainStep (a : Memref sig .tc .vmem S32x12x512 .bf16) (h : a.IsWhole) (s5 : DmaSems sig S31) (c : Dev nD)
    (j : Fin 31) : Prog (TpuEff nD τ sig (Elt F) Λ₀ .tc) PUnit :=
  Prog.lift (.waitDma2 (semAt s5 j) (rowOf a c) (rowOf a c) (rowOf_words a h c) (rowOf_words a h c))

/-! ## The body as loops -/

variable (a0 : Memref sig .tc .vmem S512x256 .bf16) (h0 : a0.IsWhole)
  (a1 : Memref sig .tc .vmem S512x1 .i32) (h1 : a1.IsWhole)
  (a2 : Memref sig .tc .vmem S2x256x512 .bf16) (h2 : a2.IsWhole)
  (a3 : Memref sig .tc .vmem S512x512 .bf16) (h3 : a3.IsWhole)
  (a4 : Memref sig .tc .vmem S32x12x512 .bf16) (h4 : a4.IsWhole)
  (s5 s6 : DmaSems sig S31)

/-- The body's last loop: the copies have left. -/
def drainLoop (c : Dev nD) : Prog (TpuEff nD τ sig (Elt F) Λ₀ .tc) PUnit :=
  steps (drainStep a4 h4 s5 c) hops (pure ⟨⟩)

/-- The combine: load all rows, store the output block, then the last loop. -/
def combine (c : Dev nD) (idx : Vec F S512x1 .i32) : Prog (TpuEff nD τ sig (Elt F) Λ₀ .tc) PUnit := do
  let g : Vec F S32x12x512 .bf16 ← Prog.lift (.load a4 (Rect.unit (s := S32x12x512) ![0, 0, 0] S32x12x512.size
    inb_S32x12x512_S32x12x512_0_0_0).toLoadRect (View.loadsAt_vmem h_S32x12x512))
  let _ : Vec F S512x512 .bf16 ← Prog.lift (.load a3 (Rect.unit (s := S512x512) ![0, 0] S512x512.size
    inb_S512x512_S512x512_0_0).toLoadRect (View.loadsAt_vmem h_S512x512))
  Prog.lift (.store a3 (Rect.unit (s := S512x512) ![0, 0] S512x512.size inb_S512x512_S512x512_0_0)
    (k0_pay5 (k0_pay4 (k0_pay1 (F := F) idx)) g) Finset.univ (View.stores_vmem h_S512x512 (h3.storeExact_slice rfl _
      packedbf16_S512x512_S512x512_0_0) (fun _ => rfl)) (.inl rfl))
  drainLoop a4 h4 s5 c

/-- From the barrier wait on. -/
def exchange (c : Dev nD) (idx : Vec F S512x1 .i32) : Prog (TpuEff nD τ sig (Elt F) Λ₀ .tc) PUnit := do
  semWaitWord barS 31#32
  steps (sendStep a4 h4 s5 s6 c) hops (steps (recvStep a4 h4 s6 c) hops (combine a3 h3 a4 h4 s5 c idx))

/-- From the first load on: the device's own row, then the exchange. -/
def compute (c : Dev nD) : Prog (TpuEff nD τ sig (Elt F) Λ₀ .tc) PUnit := do
  let idx : Vec F S512x1 .i32 ← Prog.lift (.load a1 (Rect.unit (s := S512x1) ![0, 0] S512x1.size
    inb_S512x1_S512x1_0_0).toLoadRect (View.loadsAt_vmem h_S512x1))
  let x : Vec F S512x256 .bf16 ← Prog.lift (.load a0 (Rect.unit (s := S512x256) ![0, 0] S512x256.size
    inb_S512x256_S512x256_0_0).toLoadRect (View.loadsAt_vmem h_S512x256))
  let w : Vec F S2x256x512 .bf16 ← Prog.lift (.load a2 (Rect.unit (s := S2x256x512) ![0, 0, 0] S2x256x512.size
    inb_S2x256x512_S2x256x512_0_0_0).toLoadRect (View.loadsAt_vmem h_S2x256x512))
  let _ : Vec F S1x12x512 .bf16 ← Prog.lift (.load a4 (Rect.unit (s := S32x12x512) (k0_off1 c) S1x12x512.size
    (k0_off1_inb c)).toLoadRect (View.loadsAt_vmem h_S1x12x512))
  Prog.lift (.store a4 (Rect.unit (s := S32x12x512) (k0_off1 c) S1x12x512.size (k0_off1_inb c))
    (k0_pay3 (k0_pay2 (meWord c) idx) x w) Finset.univ (View.stores_vmem h_S1x12x512 (h4.storeExact_slice rfl _
      (k0_off1_packedbf16 c)) (fun _ => rfl)) (.inl rfl))
  exchange a3 h3 a4 h4 s5 s6 c idx

/-- The whole body. -/
def bodyLoops : Prog (TpuEff nD τ sig (Elt F) Λ₀ .tc) PUnit := do
  let c : Dev nD ← Prog.lift .deviceId
  steps (signalStep c) hops (compute a0 a1 a2 a3 h3 a4 h4 s5 s6 c)

/-- The printed body is the five loops: by definitional unfolding. -/
theorem body_loops :
    cc0_body (F := F) a0 h0 a1 h1 a2 h2 a3 h3 a4 h4 s5 s6 = bodyLoops a0 a1 a2 a3 h3 a4 h4 s5 s6 := by
  chain_rfl

end Cert.KernelIdeal.Run
-- ==== Proof.KernelIdeal.Proto.lean ====
/-
The exchange's protocol, stated once for every hop.

Device `c` hands row `peer c j` of its own buffer to `peer c j` with the signal of hop `j`, so that `peer c j` may copy
its row there; the copy of hop `j` completes on semaphore `j` of both ends. Every cell has ONE round. A barrier cell's
round has 31 duties of one unit, duty `j` paid by the device whose hop `j` leads to the cell's; a transfer cell's round
has the one duty `0` of a row's credit.
-/
module

public import proofs.«01_k».proof.Proof.KernelIdeal.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy and the exchange's (a duty per hop) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

/-- The hop that leads back. -/
def back (j : Fin 31) : Fin 31 := ⟨30 - j.val, by omega⟩

theorem back_back (j : Fin 31) : back (back j) = j := by revert j; decide

theorem peer_back : ∀ (j : Fin 31) (c : Dev nD), peer (peer c j) (back j) = c := by decide +kernel

theorem peer_back' (j : Fin 31) (c : Dev nD) : peer (peer c (back j)) j = c := by
  have h := peer_back (back j) c; rwa [back_back] at h

theorem peer_ne (j : Fin 31) (c : Dev nD) : peer c j ≠ c := by revert j c; decide +kernel

theorem peer_inj (c : Dev nD) : Function.Injective (peer c) := fun j j' h => by
  have h' := congrArg Fin.val h
  simp only [peer] at h'
  have := c.isLt
  simp only [nD] at this
  omega

/-- Hop `j` moves every device. -/
def hopEquiv (j : Fin 31) : Dev nD ≃ Dev nD := ⟨fun c => peer c j, fun c => peer c (back j), peer_back j, peer_back' j⟩

def backEquiv : Fin 31 ≃ Fin 31 := ⟨back, back, back_back, back_back⟩

theorem univ_peers (c : Dev nD) : (Finset.univ : Finset (Dev nD)) = insert c (Finset.univ.image (peer c)) := by
  refine (Finset.eq_univ_iff_forall.mpr fun d => ?_).symm
  by_cases h : d = c
  · exact h ▸ Finset.mem_insert_self _ _
  · refine Finset.mem_insert_of_mem (Finset.mem_image.mpr ⟨⟨(d.val + 31 - c.val) % 32, ?_⟩, Finset.mem_univ _, Fin.ext ?_⟩)
    all_goals
      have h1 : d.val ≠ c.val := fun h' => h (Fin.ext h')
      have h2 : d.val < 32 := d.isLt
      have h3 : c.val < 32 := c.isLt
      try simp only [peer]
      omega

/-- All devices are `c` and its peers. -/
theorem bigSep_peers (c : Dev nD) (Φ : Dev nD → sProp 𝕄) :
    bigSep Finset.univ Φ = iprop(Φ c ∗ bigSep Finset.univ fun j => Φ (peer c j)) := by
  have hc : c ∉ Finset.univ.image (peer c) := by
    rw [Finset.mem_image]; rintro ⟨j, -, h⟩; exact peer_ne j c h
  have hm : Finset.univ.image (peer c) = Finset.univ.map ⟨peer c, peer_inj c⟩ :=
    (Finset.map_eq_image (⟨peer c, peer_inj c⟩ : Fin 31 ↪ Dev nD) Finset.univ).symm
  refine (congrArg (fun s => bigSep s Φ) (univ_peers c)).trans ((bigSep_insert hc).trans ?_)
  exact congrArg (fun P => iprop(Φ c ∗ P)) ((congrArg (fun s => bigSep s Φ) hm).trans (bigSep_map (⟨peer c, peer_inj c⟩ : Fin 31 ↪ Dev nD)))

theorem bigSep_back (Φ : Fin 31 → sProp 𝕄) : bigSep Finset.univ Φ = bigSep Finset.univ fun j => Φ (back j) :=
  (bigSep_univ_equiv backEquiv Φ)

/-! ## The memrefs and cells -/

abbrev xM : Memref sig .tc .vmem S512x256 .bf16 := Memref.whole cc0_stg0_0
abbrev iM : Memref sig .tc .vmem S512x1 .i32 := Memref.whole cc0_stg1_0
abbrev wM : Memref sig .tc .vmem S2x256x512 .bf16 := Memref.whole cc0_stg2_0
abbrev oM : Memref sig .tc .vmem S512x512 .bf16 := Memref.whole cc0_stg3_0
abbrev gM : Memref sig .tc .vmem S32x12x512 .bf16 := Memref.whole cc0_scratch0

/-- The semaphore of hop `j`'s copy: where it leaves (`false`) and where it arrives (`true`). -/
def xferS (b : Bool) (j : Fin 31) : DmaSem sig := semAt (match b with | false => cc0_scratch1 | true => cc0_scratch2) j

theorem xferS_val : ∀ b j, (xferS b j).val = (match b with | false => 4 | true => 35) + j.val := by decide +kernel

/-- The kernel's own semaphores: the two of each hop; -/
abbrev osem : Bool × Fin 31 → SemLoc sig := fun bj => .dma (xferS bj.1 bj.2)
/-- and all of the exchange's: the barrier's too. -/
abbrev csem : Option (Bool × Fin 31) → SemLoc sig := fun | none => .reg barS | some bj => .dma (xferS bj.1 bj.2)

theorem osem_inj : Function.Injective osem := by
  rintro ⟨b, j⟩ ⟨b', j'⟩ h
  have h1 : xferS b j = xferS b' j' := by injection h
  have h2 := congrArg Fin.val h1
  rw [xferS_val, xferS_val] at h2
  have := j.isLt; have := j'.isLt
  cases b <;> cases b' <;> simp only at h2
  · rw [show j = j' from Fin.ext (by omega)]
  · omega
  · omega
  · rw [show j = j' from Fin.ext (by omega)]

theorem csem_inj : Function.Injective csem := by
  rintro (_ | a) (_ | b) h
  · rfl
  · exact absurd h (fun h => by cases h)
  · exact absurd h (fun h => by cases h)
  · exact congrArg some (osem_inj h)

abbrev kcell (ck : Dev nD × Option (Bool × Fin 31)) : GSem nD τ sig := ((ck.1 : Thread nD τ), csem ck.2)
abbrev barCell (c : Dev nD) : GSem nD τ sig := ((c : Thread nD τ), .reg barS)
abbrev xferCell (c : Dev nD) (b : Bool) (j : Fin 31) : GSem nD τ sig := ((c : Thread nD τ), .dma (xferS b j))
abbrev sendCell (c : Dev nD) (j : Fin 31) : GSem nD τ sig := xferCell c false j
abbrev recvCell (c : Dev nD) (j : Fin 31) : GSem nD τ sig := xferCell c true j

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- Which of the exchange's cells a semaphore is. -/
def decode (s : SemLoc sig) : Option (Option (Bool × Fin 31)) :=
  open Classical in if h : ∃ k, csem k = s then some h.choose else none

theorem decode_csem (k : Option (Bool × Fin 31)) : decode (csem k) = some k := by
  unfold decode
  rw [dif_pos ⟨k, rfl⟩]
  exact congrArg some (csem_inj (Exists.choose_spec (⟨k, rfl⟩ : ∃ k', csem k' = csem k)))

/-! ## Rows of the gathered buffer -/

/-- The elements of row `r`. -/
def rowSet (r : Dev nD) : Finset S32x12x512.Idx := (rowOf gM r).view.set

theorem rowSet_eq (r : Dev nD) :
    rowSet r = (Rect.unit (s := S32x12x512) (k0_off2 r) S1x12x512.size (k0_off2_inb r)).set := by
  exact (View.set_reshape (gM.view.slice (Rect.unit (s := S32x12x512) (k0_off2 r) S1x12x512.size (k0_off2_inb r)))
    squeezes_S1x12x512_S12x512.numel_eq).trans (View.set_slice_whole _ _)

theorem mem_rowSet (r : Dev nD) (i : S32x12x512.Idx) : Iff (i ∈ rowSet r) ((i 0).val = r.val) := by
  rw [rowSet_eq, Rect.mem_set_unit, k0_off2_eq]
  constructor
  · intro h
    have := h 0
    simp only [Matrix.cons_val_zero, S1x12x512] at this
    omega
  · intro h a
    have := (i a).isLt
    match a with
    | 0 => simp only [Matrix.cons_val_zero, S1x12x512]; omega
    | 1 => exact ⟨Nat.zero_le _, by simpa [S32x12x512, S1x12x512] using (i 1).isLt⟩
    | 2 => exact ⟨Nat.zero_le _, by simpa [S32x12x512, S1x12x512] using (i 2).isLt⟩

theorem off1_set (r : Dev nD) :
    (gM.access (Rect.unit (s := S32x12x512) (k0_off1 r) S1x12x512.size (k0_off1_inb r)) : View sig .tc _ _ _).set = rowSet r := by
  refine (View.set_slice_whole _ _).trans ?_
  rw [rowSet_eq]
  ext i
  rw [Rect.mem_set_unit, Rect.mem_set_unit, k0_off1_eq, k0_off2_eq]
  exact Iff.rfl

theorem rows_disjoint (r r' : Dev nD) (h : r ≠ r') : Disjoint (rowSet r) (rowSet r') :=
  Finset.disjoint_left.mpr fun i hi hi' => h (Fin.ext (((mem_rowSet r i).mp hi).symm.trans ((mem_rowSet r' i).mp hi')))

theorem rows_cover : (Finset.univ : Finset (Dev nD)).biUnion rowSet = Finset.univ :=
  Finset.eq_univ_iff_forall.mpr fun i => Finset.mem_biUnion.mpr ⟨⟨(i 0).val, (i 0).isLt⟩, Finset.mem_univ _, (mem_rowSet _ i).mpr rfl⟩

/-- Contents of the gathered buffer. -/
abbrev GBuf (F : FTy → Type) : Type := (cc0_scratch0 : Ref sig .tc).ty.Contents (Elt F)

/-- Device `p`'s row `r` at share `q`, holding what `f` holds there. -/
def rowPts (p r : Dev nD) (q : PosShare TreeShare) (f : GBuf F) : sProp 𝕄 :=
  (rowOf gM r).view.loc (p : Thread nD τ) ↦[(rowOf gM r).view.set]{q} f

instance rowPts_storable (p r : Dev nD) (q) (f) : BI.Storable (upEmb : UEmb _ 𝕄) (rowPts (F := F) p r q f) :=
  inferInstanceAs (BI.Storable (upEmb : UEmb _ 𝕄) (((p : Thread nD τ).loc cc0_scratch0) ↦[rowSet r]{q} f))

/-- The whole buffer is its 32 rows. -/
theorem whole_rows (p : Dev nD) (q : PosShare TreeShare) (f : GBuf F) :
    ((((p : Thread nD τ).loc cc0_scratch0) ↦{q} f : sProp 𝕄)) = bigSep Finset.univ fun r => rowPts p r q f := by
  have h := pointsTo_biUnion (Ix := Unit) (Name := ℕ) (U := UU) (Lvl := ℕ) (ℓ := (p : Thread nD τ).loc cc0_scratch0) (q := q) (f := f)
    Finset.univ rowSet (fun r _ r' _ h => rows_disjoint r r' h)
  rw [rows_cover] at h
  exact h

/-- The share of a row that device `d` reads under. -/
def shr (d : Dev nD) : PosShare TreeShare := Transfers.dealOf fullShare (Finset.univ : Finset (Dev nD)) d

/-- A whole row is its 32 shares. -/
theorem row_shares (p r : Dev nD) (f : GBuf F) :
    (rowPts p r fullShare f : sProp 𝕄) = bigSep Finset.univ fun d => rowPts p r (shr d) f :=
  Transfers.pointsTo_deal _ ⟨0, Finset.mem_univ _⟩ _

/-- The credit of a row. -/
def N : ℕ := (rowOf gM 0).view.dmaCredit

theorem N_pos : 0 < N := View.dmaCredit_pos _ (by decide)

theorem rowOf_credit (r : Dev nD) : (rowOf gM r).view.dmaCredit = N := rfl
theorem rowIn_credit (r : Dev nD) (j : Fin 31) : (rowIn gM r j).view.dmaCredit = N := rfl

/-! ## Contents -/

def xAt (c : Dev nD) : (cc0_stg0_0 : Ref sig .tc).ty.Contents (Elt F) :=
  (win0_0.blk (0 : Fin 1)).view.read (Elt F) (m ((c : Thread nD τ).loc main_arg0))
def idxAt (c : Dev nD) : (cc0_stg1_0 : Ref sig .tc).ty.Contents (Elt F) :=
  (win0_1.blk (0 : Fin 1)).view.read (Elt F) (m ((c : Thread nD τ).loc main_arg2))
def wAt (c : Dev nD) : (cc0_stg2_0 : Ref sig .tc).ty.Contents (Elt F) :=
  (win0_2.blk (0 : Fin 1)).view.read (Elt F) (m ((c : Thread nD τ).loc main_arg3))

/-- The row device `d` computes. -/
def rowAt (d : Dev nD) : FVec F S1x12x512 .bf16 := k0_pay3 (k0_pay2 (meWord d) (idxAt m d)) (xAt m d) (wAt m d)

/-- An index of the buffer, within its row. -/
def inRow (i : S32x12x512.Idx) : S1x12x512.Idx := fun
  | 0 => ⟨0, by decide⟩
  | 1 => ⟨(i 1).val, (i 1).isLt⟩
  | 2 => ⟨(i 2).val, (i 2).isLt⟩

/-- The gathered buffer: row `d` is what device `d` computes. -/
def gAll : GBuf F := fun i => rowAt m ⟨((show S32x12x512.Idx from i) 0).val, ((show S32x12x512.Idx from i) 0).isLt⟩ (inRow i)

/-- What device `c` stores in its output block. -/
def outAt (c : Dev nD) : (cc0_stg3_0 : Ref sig .tc).ty.Contents (Elt F) :=
  k0_pay5 (k0_pay4 (k0_pay1 (F := F) (idxAt m c))) (gAll m)

/-- A copy of a row of the gathered buffer lands as that row. -/
theorem landed_row (r : Dev nD) (fd : GBuf F) (i : S32x12x512.Idx) (hi : i ∈ rowSet r) :
    (rowOf gM r).view.write (Elt F) fd ((rowOf gM r).view.read (Elt F) (gAll m)) Finset.univ i = gAll m i := by
  exact (congrFun ((rowOf gM r).view.write_read_eq_piecewise (Val := Elt F) fd (gAll m) Finset.univ) i).trans (Finset.piecewise_eq_of_mem _ _ _ hi)

/-- The row a device stores is the gathered buffer's. -/
theorem stored_row (c : Dev nD) (f : GBuf F) (i : S32x12x512.Idx) (hi : i ∈ rowSet c) :
    (gM.access (Rect.unit (s := S32x12x512) (k0_off1 c) S1x12x512.size (k0_off1_inb c)) : View sig .tc _ _ _).write (Elt F) f
      (rowAt m c) Finset.univ i = gAll m i := by
  rw [← off1_set] at hi
  obtain ⟨x, -, rfl⟩ := Finset.mem_map.mp hi
  rw [View.write_emb_of_mem _ _ (Finset.mem_univ x)]
  have hi := (mem_rowSet c _).mp (off1_set c ▸ View.emb_mem_set
    (gM.access (Rect.unit (s := S32x12x512) (k0_off1 c) S1x12x512.size (k0_off1_inb c)) : View sig .tc _ _ _) x)
  have hx : inRow ((gM.access (Rect.unit (s := S32x12x512) (k0_off1 c) S1x12x512.size (k0_off1_inb c)) : View sig .tc _ _ _).emb x) = x := by
    have hoff : ∀ a, a ≠ 0 → k0_off1 c a = 0 := fun a ha => by
      rw [k0_off1_eq]; match a with | 0 => exact absurd rfl ha | 1 => rfl | 2 => rfl
    have hval : ∀ a, ((gM.access (Rect.unit (s := S32x12x512) (k0_off1 c) S1x12x512.size (k0_off1_inb c)) : View sig .tc _ _ _).emb x a).val
        = k0_off1 c a + 1 * (x a).val := fun a => rfl
    funext a
    match a with
    | 0 => exact Fin.ext (by have := (x 0).isLt; simp only [inRow]; change (x 0).val < 1 at this; omega)
    | 1 => exact Fin.ext (by simp only [inRow]; rw [hval 1, hoff 1 (by decide)]; omega)
    | 2 => exact Fin.ext (by simp only [inRow]; rw [hval 2, hoff 2 (by decide)]; omega)
  exact (congr (congrArg (rowAt m) (Fin.ext hi : (⟨_, _⟩ : Dev nD) = c)) hx).symm

/-! ## The schedule -/

/-- What duty `j` of `c`'s barrier cell hands over: row `c` of the device that pays it. -/
def barPay (c : Dev nD) (j : Fin 31) : sProp 𝕄 := iprop(∃ f, rowPts (peer c (back j)) c fullShare f)
/-- What a completed transfer hands over: on arrival the row received, on departure the share it was read under. -/
def xferPay (c : Dev nD) : Bool × Fin 31 → sProp 𝕄
  | (true, j) => rowPts c (peer c (back j)) fullShare (gAll m)
  | (false, j) => rowPts c c (shr (peer c j)) (gAll m)

instance barPay_storable (c : Dev nD) (j) : BI.Storable (upEmb : UEmb _ 𝕄) (barPay (F := F) c j) := by
  unfold barPay; infer_instance
instance xferPay_storable (c : Dev nD) (bj) : BI.Storable (upEmb : UEmb _ 𝕄) (xferPay m c bj) := by
  rcases bj with ⟨_ | _, j⟩ <;> (unfold xferPay; infer_instance)

/-- The duties of a cell's round, -/
def dutiesOf : Option (Option (Bool × Fin 31)) → Finset (Fin 31)
  | some none => Finset.univ
  | some (some _) => {0}
  | none => ∅
/-- the units of each, -/
def amountOf : Option (Option (Bool × Fin 31)) → ℕ
  | some none => 1
  | _ => N
/-- and what it hands over. -/
def payOf (c : Dev nD) (j : Fin 31) : Option (Option (Bool × Fin 31)) → sProp 𝕄
  | some none => barPay c j
  | some (some bj) => xferPay m c bj
  | none => iprop(emp)

instance payOf_storable (c : Dev nD) (j) (k) : BI.Storable (upEmb : UEmb _ 𝕄) (payOf m c j k) := by
  rcases k with _ | _ | k <;> (unfold payOf; infer_instance)

def Rd : Rounds.Schedule (GSem nD τ sig) (Fin 31) 𝕄 where
  duties g r := if r = 0 ∧ g.1.2 = .tc then dutiesOf (decode g.2) else ∅
  unitless _ := False
  amount g _ _ := amountOf (decode g.2)
  payload g _ j := payOf m g.1.1 j (decode g.2)
  amount_pos g _ _ _ := by
    rcases decode g.2 with _ | _ | k
    · exact N_pos
    · exact Nat.one_pos
    · exact N_pos

instance Rd_storable (g : GSem nD τ sig) (r : ℕ) (j : Fin 31) : BI.Storable (upEmb : UEmb _ 𝕄) ((Rd m).payload g r j) := by
  dsimp only [Rd]; infer_instance

theorem duties_kcell (c : Dev nD) (k) : (Rd m).duties (kcell (c, k)) 0 = dutiesOf (some k) := by
  dsimp only [Rd]; rw [if_pos ⟨rfl, rfl⟩, decode_csem]
theorem duties_later (g : GSem nD τ sig) : ∀ r, 1 ≤ r → (Rd m).duties g r = ∅ :=
  fun r hr => by dsimp only [Rd]; rw [if_neg fun h => by omega]
theorem amount_kcell (c : Dev nD) (k) (r) (j) : (Rd m).amount (kcell (c, k)) r j = amountOf (some k) := by
  dsimp only [Rd]; rw [decode_csem]
theorem payload_kcell (c : Dev nD) (k) (r) (j) : (Rd m).payload (kcell (c, k)) r j = payOf m c j (some k) := by
  dsimp only [Rd]; rw [decode_csem]

section Cells
variable (c : Dev nD) (b : Bool) (j : Fin 31)

theorem duty_bar : j ∈ (Rd m).duties (barCell c) 0 := (duties_kcell m c none).symm ▸ Finset.mem_univ j
theorem duty_xfer : 0 ∈ (Rd m).duties (xferCell c b j) 0 := (duties_kcell m c (some (b, j))).symm ▸ Finset.mem_singleton_self _
theorem amount_bar : (Rd m).amount (barCell c) 0 j = 1 := amount_kcell m c none 0 j
theorem amount_xfer (d) : (Rd m).amount (xferCell c b j) 0 d = N := amount_kcell m c (some (b, j)) 0 d
theorem pay_bar : (Rd m).payload (barCell c) 0 j = barPay c j := payload_kcell m c none 0 j
theorem pay_xfer (d) : (Rd m).payload (xferCell c b j) 0 d = xferPay m c (b, j) := payload_kcell m c (some (b, j)) 0 d

theorem expect_bar : (Rd m).expect (barCell c) 0 = 31 := by
  unfold Schedule.expect Schedule.amountOf
  rw [show (Rd m).duties (barCell c) 0 = Finset.univ from duties_kcell m c none, Finset.sum_congr rfl fun d _ => amount_bar m c d]
  rfl
theorem expect_xfer : (Rd m).expect (xferCell c b j) 0 = N := by
  unfold Schedule.expect Schedule.amountOf
  rw [show (Rd m).duties (xferCell c b j) 0 = {0} from duties_kcell m c (some (b, j)), Finset.sum_singleton, amount_xfer]

/-- A barrier cell's whole round: the row of every peer that is this device's to fill. -/
theorem rest_bar :
    bigSep ((Rd m).duties (barCell c) 0 \ ∅) (fun d => (Rd m).payload (barCell c) 0 d)
      = bigSep Finset.univ fun j => iprop(∃ f, rowPts (peer c j) c fullShare f) := by
  rw [Finset.sdiff_empty, show (Rd m).duties (barCell c) 0 = Finset.univ from duties_kcell m c none,
    bigSep_congr (fun d _ => pay_bar m c d), bigSep_back]
  exact bigSep_congr fun j _ => by unfold barPay; rw [back_back]
/-- A transfer cell's whole round. -/
theorem rest_xfer :
    bigSep ((Rd m).duties (xferCell c b j) 0 \ ∅) (fun d => (Rd m).payload (xferCell c b j) 0 d) = xferPay m c (b, j) := by
  rw [Finset.sdiff_empty, show (Rd m).duties (xferCell c b j) 0 = {0} from duties_kcell m c (some (b, j)), bigSep_singleton, pay_xfer]

end Cells

/-! ## What each core owes at launch; the levels -/

/-- What hop `j` of device `c` owes: a unit on its peer's barrier, a row on its peer's receive cell. -/
def barOwe (c : Dev nD) (j : Fin 31) : CellTallies nD τ sig Unit := tallyAt (barCell (peer c j)) () 1
def recvOwe (c : Dev nD) (j : Fin 31) : CellTallies nD τ sig Unit := tallyAt (recvCell (peer c j) j) () N

def O₁ (c : Dev nD) : CellTallies nD τ sig Unit := (hops.map (recvOwe c)).sum
def O₀ (c : Dev nD) : CellTallies nD τ sig Unit := O₁ c + (hops.map (barOwe c)).sum

def L (g : GSem nD τ sig) : Finset Unit := if g.1.2 = .tc then {()} else ∅
/-- Barrier cells at 1, receive cells at 2, everything else (staging, send) at 0. -/
def lv (g : GSem nD τ sig) (_ : Unit) : ℕ :=
  match decode g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by
  unfold lv; rw [show decode (barCell c).2 = some none from decode_csem none]
theorem lv_recv (c : Dev nD) (j : Fin 31) (u : Unit) : lv (recvCell c j) u = 2 := by
  unfold lv; rw [show decode (recvCell c j).2 = some (some (true, j)) from decode_csem (some (true, j))]

/-- A cell owed something by a sum of tallies is owed something by one of them. -/
theorem sum_pos {f : Fin 31 → CellTallies nD τ sig Unit} {g : GSem nD τ sig} {u : Unit} :
    ∀ {l : List (Fin 31)}, 0 < (l.map f).sum g u → ∃ j, 0 < f j g u
  | [], h => absurd h (Nat.lt_irrefl 0)
  | j :: l, h => by
    rw [List.map_cons, List.sum_cons, Pi.add_apply, Finsupp.add_apply] at h
    rcases Nat.eq_zero_or_pos (f j g u) with h0 | h0
    · exact sum_pos (l := l) (by omega)
    · exact ⟨j, h0⟩

theorem tally_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ d j, g = recvCell d j := by
  obtain ⟨j, hj⟩ := sum_pos h
  exact ⟨_, j, tally_pos hj⟩

theorem O₀_pos {c : Dev nD} {g : GSem nD τ sig} {u : Unit} (h : 0 < O₀ c g u) :
    (∃ d j, g = recvCell d j) ∨ ∃ d, g = barCell d := by
  unfold O₀ at h
  rw [Pi.add_apply, Finsupp.add_apply] at h
  rcases Nat.eq_zero_or_pos (O₁ c g u) with h0 | h0
  · obtain ⟨j, hj⟩ := sum_pos (l := hops) (f := barOwe c) (by rwa [h0, Nat.zero_add] at h)
    exact .inr ⟨_, tally_pos hj⟩
  · exact .inl (O₁_pos h0)

/-- The staging waits are below everything owed. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  have hd : decode (.dma q) = none := by
    unfold decode
    rw [dif_neg]
    rintro ⟨_ | ⟨b, j⟩, h⟩
    · cases h
    · have h1 : xferS b j = q := by injection h
      have h2 := congrArg Fin.val h1
      rw [xferS_val] at h2
      cases b <;> simp only at h2 <;> omega
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; unfold lv; rw [hd])
      (fun g u hg => by
        rcases O₀_pos hg with ⟨d, j, rfl⟩ | ⟨d, rfl⟩
        · rw [lv_recv]; exact Nat.succ_pos _
        · rw [lv_bar]; exact Nat.succ_pos _)
  · rw [MayWait_zero]; iintro -; iempintro

/-- At its barrier wait a device owes receive credits only, which are above. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, j, rfl⟩ := O₁_pos hg; exact Finset.mem_singleton_self _)
    (fun p hp => by rw [Finset.mem_singleton.mp hp]; exact (lv_bar c ()).le)
    (fun g u hg => by obtain ⟨d, j, rfl⟩ := O₁_pos hg; rw [lv_recv]; exact Nat.lt_succ_self 1)

end Cert.KernelIdeal.Run
-- ==== Proof.KernelIdeal.Body.lean ====
/-
The body of the kernel on a symbolic device, one loop at a time.

`wp_steps` is the one induction: a loop over the hops turns what each hop needs into what each hop gives back, if one
step does. Each loop is then one step at a symbolic hop.
-/
module

public import proofs.«01_k».proof.Proof.KernelIdeal.Proto

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `p` on device `c` runs to `Q`. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## A loop over the hops -/

/-- A conjunct per hop of a list. -/
def sepL (l : List (Fin 31)) (Φ : Fin 31 → sProp 𝕄) : sProp 𝕄 := l.foldr (fun j P => iprop(Φ j ∗ P)) iprop(emp)

theorem sepL_toFinset (Φ : Fin 31 → sProp 𝕄) : ∀ l : List (Fin 31), l.Nodup → sepL l Φ = bigSep l.toFinset Φ
  | [], _ => rfl
  | j :: l, h => by
    rw [List.nodup_cons] at h
    rw [List.toFinset_cons, bigSep_insert (by rw [List.mem_toFinset]; exact h.1), ← sepL_toFinset Φ l h.2]
    rfl

theorem sepL_hops (Φ : Fin 31 → sProp 𝕄) : sepL hops Φ = bigSep Finset.univ Φ :=
  (sepL_toFinset Φ hops (by decide)).trans (congrArg (fun s => bigSep s Φ) (by decide))

variable (c : Dev nD)

/-- The loop rule: if the step of hop `j`, from `Pre j` and the state before it, gives `Post j` and the state after it,
    the loop turns every `Pre` into every `Post`. `R` is what every step may use. -/
theorem wp_steps (op : Fin 31 → Prog (TpuEff nD τ sig (Elt F) Λ₀ .tc) PUnit) (R : sProp 𝕄) [BI.Persistent R]
    (Pre Post : Fin 31 → sProp 𝕄) (C : List (Fin 31) → sProp 𝕄)
    (step : ∀ (j : Fin 31) (l : List (Fin 31)) (k : Prog (TpuEff nD τ sig (Elt F) Λ₀ .tc) PUnit) (Q : PUnit → sProp 𝕄),
      iprop(R ∗ Pre j ∗ C (j :: l) ∗ ((Post j ∗ C l) -∗ run c k Q)) ⊢ run c (op j >>= fun _ => k) Q)
    (k : Prog (TpuEff nD τ sig (Elt F) Λ₀ .tc) PUnit) (Q : PUnit → sProp 𝕄) :
    ∀ l : List (Fin 31), iprop(R ∗ sepL l Pre ∗ C l ∗ ((sepL l Post ∗ C []) -∗ run c k Q)) ⊢ run c (steps op l k) Q
  | [] => by
    unfold sepL steps
    iintro ⟨-, -, HC, Hk⟩
    iapply Hk
    isplitr; · iempintro
    iexact HC
  | j :: l => by
    iintro ⟨#HR, Hpre, HC, Hk⟩
    ihave Hp := (show sepL (j :: l) Pre ⊢ iprop(Pre j ∗ sepL l Pre) from Entails.refl _) $$ Hpre
    icases Hp with ⟨Hj, Hl⟩
    iapply (step j l (steps op l k) Q)
    isplitr; · iexact HR
    isplitl [Hj]; · iexact Hj
    isplitl [HC]; · iexact HC
    iintro ⟨Hpost, HC⟩
    iapply (wp_steps op R Pre Post C step k Q l)
    isplitr; · iexact HR
    isplitl [Hl]; · iexact Hl
    isplitl [HC]; · iexact HC
    iintro ⟨Hposts, HC⟩
    iapply Hk
    isplitl [Hpost Hposts]
    · iapply (show iprop(Post j ∗ sepL l Post) ⊢ sepL (j :: l) Post from Entails.refl _)
      isplitl [Hpost] <;> iassumption
    iexact HC

/-! ## The records every step may use -/

variable (K : Dev nD × Option (Bool × Fin 31) → ℕ)

/-- Every cell's invariant, and that every cell has reached round 0. -/
def records : sProp 𝕄 :=
  iprop((bigSep Finset.univ fun ck => cellInv ER (Rd m) (K ck) (kcell ck)) ∗ bigSep Finset.univ fun ck => reached ER (kcell ck) 0)

instance records_persistent : BI.Persistent (records m K) := by unfold records; infer_instance

theorem inv_at (ck) : records m K ⊢ cellInv ER (Rd m) (K ck) (kcell ck) :=
  sep_elim_left.trans (bigSep_elim (Finset.mem_univ ck))
theorem reached_at (ck) : records m K ⊢ reached ER (kcell ck) 0 :=
  sep_elim_right.trans (bigSep_elim (Finset.mem_univ ck))

/-- What the device owes, whatever it has waited for. -/
def owing (O : CellTallies nD τ sig Unit) : sProp 𝕄 := iprop(∃ W, owes (c : Thread nD τ) O W)

/-! ## The greeting -/

theorem signal_step (j : Fin 31) (l : List (Fin 31)) (k : Prog (TpuEff nD τ sig (Elt F) Λ₀ .tc) PUnit) (Q : PUnit → sProp 𝕄) :
    iprop(records m K ∗ (dutyTok ER (barCell (peer c j)) 0 j ∗ ∃ f, rowPts c (peer c j) fullShare f)
        ∗ owing c (O₁ c + ((j :: l).map (barOwe c)).sum)
        ∗ ((emp ∗ owing c (O₁ c + (l.map (barOwe c)).sum)) -∗ run c k Q))
      ⊢ run c (signalStep c j >>= fun _ => k) Q := by
  unfold owing
  rw [show signalStep (F := F) c j = semSignalWord (peer c j) barS 1#32 from
    congrArg (fun d => semSignalWord d barS 1#32) (Fin.ext (sigTab_eq j c))]
  simp only [semSignalWord, Prog.lift, Prog.bind_op, Prog.bind_ret]
  iintro ⟨#HR, ⟨Htok, Hrow⟩, ⟨%W, HO⟩, Hk⟩
  iapply (Rounds.wp_signal 𝒱₀ ER (Rd m) (c : Thread nD τ) none (dst := (peer c j : Thread nD τ)) (κ := K (peer c j, none))
      (d := j) (duty_bar m (peer c j) j) ((amount_bar m (peer c j) j).trans (by decide)) ()
      (O₁ c + (l.map (barOwe c)).sum)
      (show O₁ c + ((j :: l).map (barOwe c)).sum = O₁ c + (l.map (barOwe c)).sum + tallyAt (barCell (peer c j)) () 1 by
        rw [List.map_cons, List.sum_cons, add_comm (barOwe c j), ← add_assoc]; rfl)) $$ [HO Htok Hrow]
  · isplitr; · iapply (inv_at m K (peer c j, none)); iexact HR
    isplitl [HO]; · iexact HO
    isplitl [Htok]; · iexact Htok
    isplitl [Hrow]
    · rw [pay_bar]
      unfold barPay; rw [peer_back]; iexact Hrow
    · iapply (reached_at m K (peer c j, none)); iexact HR
  iintro HO
  iapply Hk
  isplitr; · iempintro
  iexists W; iexact HO

/-! ## The copies -/

/-- The copy of hop `j`, addressed to a device `n` that is the hop's peer. -/
theorem wp_send_row (j : Fin 31) (n : Dev nD) (hn : n = peer c j)
    {hsc : (rowOf gM c : Memref sig (Dev.tc n : Thread nD τ).2.kind .vmem S12x512 .bf16).view.ref.isScScratch = false}
    {hsrc : (rowOf gM c).view.WordExact} {hdst : (rowOf gM c).view.WordExact}
    {hsem : DmaTarget.Typed .vmem (.dma (xferS true j)) (.remote (Dev.tc n : Thread nD τ) (rowOf gM c) (.dma (xferS false j)) hsc)}
    {α : Type} {Q : α → sProp 𝕄} {k : PUnit → Prog (TpuEff nD τ sig (Elt F) Λ₀ .tc) α}
    (fn : GBuf F) (O : CellTallies nD τ sig Unit) (W : Waits sig Unit) :
    iprop(cellInv ER (Rd m) (K (c, some (false, j))) (sendCell c j) ∗ cellInv ER (Rd m) (K (peer c j, some (true, j))) (recvCell (peer c j) j)
        ∗ rowPts c c (shr (peer c j)) (gAll m) ∗ rowPts (peer c j) c fullShare fn
        ∗ owes (c : Thread nD τ) (O + recvOwe c j) W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowOf gM c) (.remote (Dev.tc n : Thread nD τ) (rowOf gM c) (.dma (xferS false j)) hsc) (.dma (xferS true j)) hsrc hdst hsem) k) Q) := by
  subst hn
  have hN : (rowOf gM c).view.amount (.dma (xferS true j)) = N := rowOf_credit c
  have hp₁ : (rowPts c c (shr (peer c j)) (gAll m) : sProp 𝕄) ⊢ (Rd m).payload (sendCell c j) 0 0 := by
    rw [pay_xfer]; exact BI.Entails.refl _
  have hp₂ : (((rowOf gM c).view.loc (peer c j : Thread nD τ)) ↦[(rowOf gM c).view.set]{fullShare} ((rowOf gM c).view.write (Elt F) fn
      ((rowOf gM c).view.read (Elt F) (gAll m)) Finset.univ) : sProp 𝕄) ⊢ (Rd m).payload (recvCell (peer c j) j) 0 0 := by
    rw [pay_xfer]
    show _ ⊢ rowPts (peer c j) (peer (peer c j) (back j)) fullShare (gAll m)
    rw [peer_back]
    exact Entails.of_eq (pointsTo_congr fun i hi => landed_row m c fn i hi)
  exact Rounds.wp_send_pointsTo (defs := defs₀ (F := F)) (k := k) (Q := Q) (c' := (peer c j : Thread nD τ)) (src := rowOf gM c)
    (dst := rowOf gM c) (hsrc := hsrc) (hdst := hdst) (hsem := hsem) (Es := Set.univ) 𝒱₀ ER (Rd m) (c : Thread nD τ) none
    (κ₁ := K (c, some (false, j))) (κ₂ := K (peer c j, some (true, j))) (d₁ := 0) (d₂ := 0) (fd := fn) (fs := gAll m)
    (q := shr (peer c j)) (duty_xfer m c false j) (duty_xfer m (peer c j) true j) () () N hN (amount_xfer m c false j 0)
    (amount_xfer m (peer c j) true j 0) O rfl (W := W) hp₁ hp₂ (hr := Topo.routes_tc _ _)

theorem send_step (j : Fin 31) (l : List (Fin 31)) (k : Prog (TpuEff nD τ sig (Elt F) Λ₀ .tc) PUnit) (Q : PUnit → sProp 𝕄) :
    iprop(records m K ∗ (rowPts c c (shr (peer c j)) (gAll m) ∗ (∃ f, rowPts (peer c j) c fullShare f)
          ∗ dutyTok ER (sendCell c j) 0 0 ∗ dutyTok ER (recvCell (peer c j) j) 0 0)
        ∗ owing c ((j :: l).map (recvOwe c)).sum
        ∗ ((cred (tallyAt (sendCell c j) () N) ∗ owing c (l.map (recvOwe c)).sum) -∗ run c k Q))
      ⊢ run c (sendStep gM (Memref.isWhole_whole _) cc0_scratch1 cc0_scratch2 c j >>= fun _ => k) Q := by
  rw [show sendStep (F := F) gM (Memref.isWhole_whole _) cc0_scratch1 cc0_scratch2 c j
    = Prog.lift (.enqueueDma (rowOf gM c) (.remote (Dev.tc (⟨sendTab j c, sendTab_lt j c⟩ : Dev nD)) (rowOf gM c)
        (.dma (xferS false j))) (.dma (xferS true j)) (rowOf_words _ (Memref.isWhole_whole _) c) (rowOf_words _ (Memref.isWhole_whole _) c)
        ⟨⟨rfl, Or.inl rfl⟩, trivial⟩) from rfl]
  unfold owing
  simp only [Prog.lift, Prog.bind_op, Prog.bind_ret]
  rw [List.map_cons, List.sum_cons, add_comm]
  iintro ⟨#HR, ⟨Hrow, ⟨%fn, Hdst⟩, HtS, HtR⟩, ⟨%W, HO⟩, Hk⟩
  iapply (wp_send_row m c K j _ (Fin.ext (sendTab_eq j c)) fn (l.map (recvOwe c)).sum W) $$ [Hrow Hdst HtS HtR HO]
  · isplitr; · iapply (inv_at m K (c, some (false, j))); iexact HR
    isplitr; · iapply (inv_at m K (peer c j, some (true, j))); iexact HR
    isplitl [Hrow]; · iexact Hrow
    isplitl [Hdst]; · iexact Hdst
    isplitl [HO]; · iexact HO
    isplitl [HtS]; · iexact HtS
    isplitr; · iapply (reached_at m K (c, some (false, j))); iexact HR
    isplitl [HtR]; · iexact HtR
    iapply (reached_at m K (peer c j, some (true, j))); iexact HR
  iintro ⟨Hc, HO⟩
  iapply Hk
  isplitl [Hc]; · iexact Hc
  iexists W; iexact HO

/-! ## The waits -/

/-- A wait for a row's credit on a transfer cell, owing nothing: what the transfer hands over, and the cell closed. -/
theorem wait_step (b : Bool) (j : Fin 31) (v w : Memref sig .tc .vmem S12x512 .bf16) (hv : v.view.WordExact) (hw : w.view.WordExact)
    (hN : v.view.dmaCredit = N) (hN' : w.view.dmaCredit = N)
    (k : Prog (TpuEff nD τ sig (Elt F) Λ₀ .tc) PUnit) (Q : PUnit → sProp 𝕄) :
    iprop(records m K ∗ (cred (tallyAt (xferCell c b j) () N) ∗ atPos ER (xferCell c b j) 0 ∅ 0)
        ∗ owing c 0
        ∗ (((xferPay m c (b, j) ∗ semVal (xferCell c b j) 0) ∗ owing c 0) -∗ run c k Q))
      ⊢ run c (Prog.lift (.waitDma2 (xferS b j) v w hv hw) >>= fun _ => k) Q := by
  unfold owing
  simp only [Prog.lift, Prog.bind_op, Prog.bind_ret]
  iintro ⟨#HR, ⟨Hc, Hat⟩, ⟨%W, HO⟩, Hk⟩
  ihave #HI := (inv_at m K (c, some (b, j))) $$ HR
  rw [← hN']
  iapply (Rounds.wp_wait_rest_token 𝒱₀ ER (Rd m) (c : Thread nD τ) none (κ := K (c, some (b, j)))
      (wpE_waitDma2_eq 𝒱₀ (c : Thread nD τ) none Set.univ) (Set.mem_univ _) () (O := 0) (W := W) (R := 0) (m := 0) (T := ∅)
      (by rw [Nat.zero_add, expect_xfer, hN'])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_xfer m c b j)) $$ Hpay
  imod (Rounds.cell_close ER (Rd m) (Set.mem_univ (K (c, some (b, j)))) (fun h => h) (R := 0 + 1) (duties_later m (xferCell c b j))) $$ [Hat] with Hz
  · isplitr; · iexact HI
    iexact Hat
  iapply Hk
  isplitl [Hp Hz]
  · isplitl [Hp] <;> iassumption
  iexists _; iexact HO

end Cert.KernelIdeal.Run
-- ==== Proof.KernelIdeal.Device.lean ====
/-
The whole body on a symbolic device: the five loops and what stands between them, put together.
-/
module

public import proofs.«01_k».proof.Proof.KernelIdeal.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Fin 31) → ℕ) (c : Dev nD)

/-- A conjunct per hop. -/
abbrev each (Φ : Fin 31 → sProp 𝕄) : sProp 𝕄 := bigSep Finset.univ Φ

/-! ## The loops -/

/-- A loop over all the hops. -/
theorem wp_hops (op : Fin 31 → Prog (TpuEff nD τ sig (Elt F) Λ₀ .tc) PUnit) (R : sProp 𝕄) [BI.Persistent R]
    (Pre Post : Fin 31 → sProp 𝕄) (C : List (Fin 31) → sProp 𝕄)
    (step : ∀ (j : Fin 31) (l : List (Fin 31)) (k : Prog (TpuEff nD τ sig (Elt F) Λ₀ .tc) PUnit) (Q : PUnit → sProp 𝕄),
      iprop(R ∗ Pre j ∗ C (j :: l) ∗ ((Post j ∗ C l) -∗ run c k Q)) ⊢ run c (op j >>= fun _ => k) Q)
    (k : Prog (TpuEff nD τ sig (Elt F) Λ₀ .tc) PUnit) (Q : PUnit → sProp 𝕄) :
    iprop(R ∗ each Pre ∗ C hops ∗ ((each Post ∗ C []) -∗ run c k Q)) ⊢ run c (steps op hops k) Q := by
  rw [show each Pre = sepL hops Pre from (sepL_hops Pre).symm, show each Post = sepL hops Post from (sepL_hops Post).symm]
  exact wp_steps c op R Pre Post C step k Q hops

theorem signals (k : Prog (TpuEff nD τ sig (Elt F) Λ₀ .tc) PUnit) (Q : PUnit → sProp 𝕄) :
    iprop(records m K ∗ (each (fun j => dutyTok ER (barCell (peer c j)) 0 j) ∗ each fun j => iprop(∃ f, rowPts c (peer c j) fullShare f))
        ∗ owing c (O₀ c) ∗ (owing c (O₁ c) -∗ run c k Q))
      ⊢ run c (steps (signalStep c) hops k) Q := by
  rw [← bigSep_sep']
  iintro ⟨#HR, Hpre, HO, Hk⟩
  iapply (wp_hops c (signalStep c) (records m K) (fun j => iprop(dutyTok ER (barCell (peer c j)) 0 j ∗ ∃ f, rowPts c (peer c j) fullShare f))
    (fun _ => iprop(emp)) (fun l => owing c (O₁ c + (l.map (barOwe c)).sum)) (fun j l k Q => signal_step m c K j l k Q) k Q)
  isplitr; · iexact HR
  isplitl [Hpre]; · iexact Hpre
  isplitl [HO]; · iexact HO
  iintro ⟨-, HO⟩
  iapply Hk
  rw [List.map_nil, List.sum_nil, add_zero]
  iexact HO

theorem sends (k : Prog (TpuEff nD τ sig (Elt F) Λ₀ .tc) PUnit) (Q : PUnit → sProp 𝕄) :
    iprop(records m K ∗ (each (fun j => rowPts c c (shr (peer c j)) (gAll m)) ∗ each (fun j => iprop(∃ f, rowPts (peer c j) c fullShare f))
          ∗ each (fun j => dutyTok ER (sendCell c j) 0 0) ∗ each fun j => dutyTok ER (recvCell (peer c j) j) 0 0)
        ∗ owing c (O₁ c) ∗ ((each (fun j => cred (tallyAt (sendCell c j) () N)) ∗ owing c 0) -∗ run c k Q))
      ⊢ run c (steps (sendStep gM (Memref.isWhole_whole _) cc0_scratch1 cc0_scratch2 c) hops k) Q := by
  rw [← bigSep_sep', ← bigSep_sep', ← bigSep_sep']
  exact wp_hops c (sendStep gM (Memref.isWhole_whole _) cc0_scratch1 cc0_scratch2 c) (records m K) _ _
    (fun l => owing c (l.map (recvOwe c)).sum) (fun j l k Q => send_step m c K j l k Q) k Q

/-- A loop of waits on one side of the transfers: what each hands over, and the cells closed. -/
theorem waits (b : Bool) (op : Fin 31 → Prog (TpuEff nD τ sig (Elt F) Λ₀ .tc) PUnit)
    (v : Fin 31 → Memref sig .tc .vmem S12x512 .bf16) (hv : ∀ j, (v j).view.WordExact) (hN : ∀ j, (v j).view.dmaCredit = N)
    (hop : ∀ j, op j = Prog.lift (.waitDma2 (xferS b j) (v j) (v j) (hv j) (hv j)))
    (k : Prog (TpuEff nD τ sig (Elt F) Λ₀ .tc) PUnit) (Q : PUnit → sProp 𝕄) :
    iprop(records m K ∗ (each (fun j => cred (tallyAt (xferCell c b j) () N)) ∗ each fun j => atPos ER (xferCell c b j) 0 ∅ 0)
        ∗ owing c 0 ∗ (((each (fun j => xferPay m c (b, j)) ∗ each fun j => semVal (xferCell c b j) 0) ∗ owing c 0) -∗ run c k Q))
      ⊢ run c (steps op hops k) Q := by
  rw [← bigSep_sep', ← bigSep_sep']
  exact wp_hops c op (records m K) _ _ (fun _ => owing c 0)
    (fun j l k Q => by rw [hop j]; exact wait_step m c K b j (v j) (v j) (hv j) (hv j) (hN j) (hN j) k Q) k Q

/-! ## The rows and shares -/

/-- A row split into the share device `c` reads under and the others. -/
theorem row_split (p r : Dev nD) (f : GBuf F) :
    (rowPts p r fullShare f : sProp 𝕄) = iprop(rowPts p r (shr c) f ∗ each fun j => rowPts p r (shr (peer c j)) f) :=
  (row_shares p r f).trans (bigSep_peers c fun d => rowPts p r (shr d) f)

/-- The whole buffer is device `c`'s row and its peers'. -/
theorem whole_split (p : Dev nD) (q : PosShare TreeShare) (f : GBuf F) :
    ((((p : Thread nD τ).loc cc0_scratch0) ↦{q} f : sProp 𝕄)) = iprop(rowPts p c q f ∗ each fun j => rowPts p (peer c j) q f) :=
  (whole_rows p q f).trans (bigSep_peers c fun r => rowPts p r q f)

/-- The peers' rows split into the share device `c` reads under and the others. -/
theorem peers_split (p : Dev nD) (f : GBuf F) :
    (each (fun j => rowPts p (peer c j) fullShare f) : sProp 𝕄)
      = iprop(each (fun j => rowPts p (peer c j) (shr c) f) ∗ each fun j => each fun i => rowPts p (peer c j) (shr (peer c i)) f) :=
  (bigSep_congr fun j _ => row_split c p (peer c j) f).trans (bigSep_sep' _ _ _)

/-- What the receive waits hand over is the peers' rows. -/
theorem received : (each (fun j => xferPay m c (true, j)) : sProp 𝕄) = each fun j => rowPts c (peer c j) fullShare (gAll m) :=
  (bigSep_back (F := F) fun j => rowPts c (peer c j) fullShare (gAll m)).symm

/-! ## Reads and writes of whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

abbrev rX : Rect S512x256 := Rect.unit (s := S512x256) ![0, 0] S512x256.size inb_S512x256_S512x256_0_0
abbrev rI : Rect S512x1 := Rect.unit (s := S512x1) ![0, 0] S512x1.size inb_S512x1_S512x1_0_0
abbrev rW : Rect S2x256x512 := Rect.unit (s := S2x256x512) ![0, 0, 0] S2x256x512.size inb_S2x256x512_S2x256x512_0_0_0
abbrev rO : Rect S512x512 := Rect.unit (s := S512x512) ![0, 0] S512x512.size inb_S512x512_S512x512_0_0
abbrev rG : Rect S32x12x512 := Rect.unit (s := S32x12x512) ![0, 0, 0] S32x12x512.size inb_S32x12x512_S32x12x512_0_0_0
abbrev rRow (c : Dev nD) : Rect S32x12x512 := Rect.unit (s := S32x12x512) (k0_off1 c) S1x12x512.size (k0_off1_inb c)

theorem read_x (f : (cc0_stg0_0 : Ref sig .tc).ty.Contents (Elt F)) : xM.view.readAt (Elt F) rX.toLoadRect f = f :=
  Memref.readAt_unit_zero (Elt F) cc0_stg0_0 hz2 _ f
theorem read_i (f : (cc0_stg1_0 : Ref sig .tc).ty.Contents (Elt F)) : iM.view.readAt (Elt F) rI.toLoadRect f = f :=
  Memref.readAt_unit_zero (Elt F) cc0_stg1_0 hz2 _ f
theorem read_w (f : (cc0_stg2_0 : Ref sig .tc).ty.Contents (Elt F)) : wM.view.readAt (Elt F) rW.toLoadRect f = f :=
  Memref.readAt_unit_zero (Elt F) cc0_stg2_0 hz3 _ f
theorem read_g (f : GBuf F) : gM.view.readAt (Elt F) rG.toLoadRect f = f :=
  Memref.readAt_unit_zero (Elt F) cc0_scratch0 hz3 _ f
theorem write_o (f w : (cc0_stg3_0 : Ref sig .tc).ty.Contents (Elt F)) :
    (oM.access rO : View sig .tc _ _ _).write (Elt F) f w Finset.univ = w :=
  Memref.write_access_unit_zero_univ (Elt F) cc0_stg3_0 hz2 _ f w

/-! ## The stretches between the loops -/

/-- The combine: all rows read, the output block stored, the copies seen off. -/
theorem combine_run (fo : (cc0_stg3_0 : Ref sig .tc).ty.Contents (Elt F)) (Q : PUnit → sProp 𝕄) :
    iprop(records m K ∗ (((c : Thread nD τ).loc cc0_scratch0) ↦{shr c} gAll m)
        ∗ (((c : Thread nD τ).loc cc0_stg3_0) ↦{fullShare} fo)
        ∗ (each (fun j => cred (tallyAt (sendCell c j) () N)) ∗ each fun j => atPos ER (sendCell c j) 0 ∅ 0)
        ∗ owing c 0
        ∗ (((((c : Thread nD τ).loc cc0_scratch0) ↦{shr c} gAll m) ∗ (((c : Thread nD τ).loc cc0_stg3_0) ↦{fullShare} outAt m c)
            ∗ each (fun j => xferPay m c (false, j)) ∗ each (fun j => semVal (sendCell c j) 0) ∗ owing c 0) -∗ Q ⟨⟩))
      ⊢ run c (combine oM (Memref.isWhole_whole _) gM (Memref.isWhole_whole _) cc0_scratch1 c (idxAt m c)) Q := by
  unfold combine
  simp only [Prog.lift, Prog.bind_op, Prog.bind_ret]
  iintro ⟨#HR, Hg, Ho, ⟨Hc, Hat⟩, HO, Hk⟩
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  unfold drainLoop
  iapply (waits m K c false (drainStep gM (Memref.isWhole_whole _) cc0_scratch1 c) (fun _ => rowOf gM c) (fun _ => rowOf_words _ (Memref.isWhole_whole _) c)
    (fun _ => rowOf_credit c) (fun _ => rfl))
  isplitr; · iexact HR
  isplitl [Hc Hat]; · isplitl [Hc] <;> iassumption
  isplitl [HO]; · iexact HO
  iintro ⟨⟨Hp, Hz⟩, HO⟩
  unfold run
  rw [Prog.pure_eq_ret, wp_ret]; imodintro
  iapply Hk
  isplitl [Hg]; · iexact Hg
  isplitl [Ho]; · iexact Ho
  isplitl [Hp]; · iexact Hp
  isplitl [Hz] <;> iassumption

/-- From the barrier wait on. -/
theorem exchange_run (fo : (cc0_stg3_0 : Ref sig .tc).ty.Contents (Elt F)) (Q : PUnit → sProp 𝕄) :
    iprop(records m K ∗ levAts L lv ∗ rowPts c c fullShare (gAll m)
        ∗ (((c : Thread nD τ).loc cc0_stg3_0) ↦{fullShare} fo)
        ∗ (cred (tallyAt (barCell c) () 31) ∗ each fun j => cred (tallyAt (recvCell c j) () N))
        ∗ (atPos ER (barCell c) 0 ∅ 0 ∗ each (fun j => atPos ER (sendCell c j) 0 ∅ 0) ∗ each fun j => atPos ER (recvCell c j) 0 ∅ 0)
        ∗ (each (fun j => dutyTok ER (sendCell c j) 0 0) ∗ each fun j => dutyTok ER (recvCell (peer c j) j) 0 0)
        ∗ owing c (O₁ c)
        ∗ (((((c : Thread nD τ).loc cc0_scratch0) ↦{fullShare} gAll m) ∗ (((c : Thread nD τ).loc cc0_stg3_0) ↦{fullShare} outAt m c)
            ∗ semVal (barCell c) 0 ∗ each (fun j => semVal (sendCell c j) 0) ∗ each (fun j => semVal (recvCell c j) 0) ∗ owing c 0) -∗ Q ⟨⟩))
      ⊢ run c (exchange oM (Memref.isWhole_whole _) gM (Memref.isWhole_whole _) cc0_scratch1 cc0_scratch2 c (idxAt m c)) Q := by
  unfold exchange
  simp only [semWaitWord, Prog.lift, Prog.bind_op, Prog.bind_ret]
  unfold owing
  iintro ⟨#HR, #Hlev, Hrow, Ho, ⟨HcB, HcR⟩, ⟨HaB, HaS, HaR⟩, ⟨HtS, HtR⟩, ⟨%W, HO⟩, Hk⟩
  ihave #HI := (inv_at m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hdst := (Entails.of_eq (rest_bar m c)) $$ Hpay
  imod (Rounds.cell_close ER (Rd m) (Set.mem_univ (K (c, none))) (fun h => h) (R := 0 + 1) (duties_later m (barCell c))) $$ [HaB] with HzB
  · isplitr; · iexact HI
    iexact HaB
  ihave Hs := (Entails.of_eq (row_split c c c (gAll m))) $$ Hrow
  icases Hs with ⟨Hown, Hlent⟩
  iapply (sends m K c)
  isplitr; · iexact HR
  isplitl [Hlent Hdst HtS HtR]
  · isplitl [Hlent]; · iexact Hlent
    isplitl [Hdst]; · iexact Hdst
    isplitl [HtS] <;> iassumption
  isplitl [HO]; · unfold owing; iexists _; iexact HO
  iintro ⟨HcS, HO⟩
  iapply (waits m K c true (recvStep gM (Memref.isWhole_whole _) cc0_scratch2 c) (fun j => rowIn gM c j) (fun j => rowIn_words _ (Memref.isWhole_whole _) c j)
    (fun j => rowIn_credit c j) (fun _ => rfl))
  isplitr; · iexact HR
  isplitl [HcR HaR]; · isplitl [HcR] <;> iassumption
  isplitl [HO]; · iexact HO
  iintro ⟨⟨Hp, HzR⟩, HO⟩
  ihave Hrows := (Entails.of_eq ((received m c).trans (peers_split c c (gAll m)))) $$ Hp
  icases Hrows with ⟨Hread, Hkept⟩
  iapply (combine_run m K c fo)
  isplitr; · iexact HR
  isplitl [Hown Hread]
  · iapply (Entails.of_eq (whole_split c c (shr c) (gAll m)).symm)
    isplitl [Hown] <;> iassumption
  isplitl [Ho]; · iexact Ho
  isplitl [HcS HaS]; · isplitl [HcS] <;> iassumption
  isplitl [HO]; · iexact HO
  iintro ⟨Hg, Ho, Hback, HzS, HO⟩
  iapply Hk
  ihave Hg' := (Entails.of_eq (whole_split c c (shr c) (gAll m))) $$ Hg
  icases Hg' with ⟨Hown, Hread⟩
  isplitl [Hown Hread Hback Hkept]
  · iapply (Entails.of_eq (whole_split c c fullShare (gAll m)).symm)
    isplitl [Hown Hback]
    · iapply (Entails.of_eq (row_split c c c (gAll m)).symm)
      isplitl [Hown]; · iexact Hown
      iexact Hback
    · iapply (Entails.of_eq (peers_split c c (gAll m)).symm)
      isplitl [Hread] <;> iassumption
  isplitl [Ho]; · iexact Ho
  isplitl [HzB]; · iexact HzB
  isplitl [HzS]; · iexact HzS
  isplitl [HzR]; · iexact HzR
  iapply (show owing c 0 ⊢ iprop(∃ W, owes (c : Thread nD τ) 0 W) from Entails.refl _); iexact HO

/-- From the first load on: the device's own row is computed and stored. -/
theorem compute_run (fg : GBuf F) (Q : PUnit → sProp 𝕄) :
    iprop(rowPts c c fullShare fg ∗ (((c : Thread nD τ).loc cc0_stg0_0) ↦{fullShare} xAt m c)
        ∗ (((c : Thread nD τ).loc cc0_stg1_0) ↦{fullShare} idxAt m c) ∗ (((c : Thread nD τ).loc cc0_stg2_0) ↦{fullShare} wAt m c)
        ∗ ((rowPts c c fullShare (gAll m) ∗ (((c : Thread nD τ).loc cc0_stg0_0) ↦{fullShare} xAt m c)
            ∗ (((c : Thread nD τ).loc cc0_stg1_0) ↦{fullShare} idxAt m c) ∗ (((c : Thread nD τ).loc cc0_stg2_0) ↦{fullShare} wAt m c))
          -∗ run c (exchange oM (Memref.isWhole_whole _) gM (Memref.isWhole_whole _) cc0_scratch1 cc0_scratch2 c (idxAt m c)) Q))
      ⊢ run c (compute xM iM wM oM (Memref.isWhole_whole _) gM (Memref.isWhole_whole _) cc0_scratch1 cc0_scratch2 c) Q := by
  unfold compute
  simp only [Prog.lift, Prog.bind_op, Prog.bind_ret]
  iintro ⟨Hrow, Hx, Hi, Hw, Hk⟩
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  ihave Hrow := (show (rowPts c c fullShare fg : sProp 𝕄) ⊢ (((c : Thread nD τ).loc cc0_scratch0) ↦[rowSet c]{fullShare} fg) from Entails.refl _) $$ Hrow
  iapply (wp_load_rect 𝒱₀ (c : Thread nD τ) none Set.univ (m := gM) (r := rRow c) (off1_set c).subset) $$ Hrow; iintro Hrow
  iapply (wp_store 𝒱₀ (c : Thread nD τ) none Set.univ (m := gM) (r := rRow c) (Mk := Finset.univ)
    (by rw [View.setOn_univ]; exact (off1_set c).subset)) $$ Hrow; iintro Hrow
  ihave Hrow := (show (((gM.access (rRow c) : View sig .tc _ _ _).loc (c : Thread nD τ) ↦[rowSet c]{fullShare}
      (gM.access (rRow c) : View sig .tc _ _ _).write (Elt F) fg (k0_pay3 (k0_pay2 (meWord c) (idxAt m c)) (xAt m c) (wAt m c)) Finset.univ) : sProp 𝕄) ⊢ rowPts c c fullShare (gAll m)
    from Entails.of_eq (pointsTo_congr fun i hi => stored_row m c fg i hi)) $$ Hrow
  iapply Hk
  isplitl [Hrow]; · iexact Hrow
  isplitl [Hx]; · iexact Hx
  isplitl [Hi] <;> iassumption

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from: the records, its positions, the tokens of the duties it pays, its credits, and the
    levels. -/
def ghost : sProp 𝕄 :=
  iprop(records m K
    ∗ (atPos ER (barCell c) 0 ∅ 0 ∗ each (fun j => atPos ER (sendCell c j) 0 ∅ 0) ∗ each fun j => atPos ER (recvCell c j) 0 ∅ 0)
    ∗ each (fun j => dutyTok ER (barCell (peer c j)) 0 j) ∗ each (fun j => dutyTok ER (sendCell c j) 0 0)
    ∗ each fun j => dutyTok ER (recvCell (peer c j) j) 0 0)

def start : sProp 𝕄 :=
  iprop((∃ K, ghost m K c) ∗ (cred (tallyAt (barCell c) () 31) ∗ each fun j => cred (tallyAt (recvCell c j) () N)) ∗ levAts L lv)

def Φ₀ : sProp 𝕄 := iprop(start m c ∗ ∃ f : GBuf F, ((c : Thread nD τ).loc cc0_scratch0) ↦{fullShare} f)
/-- After the body: the gathered buffer and every cell closed at zero. -/
def Φ₁ : sProp 𝕄 :=
  iprop((((c : Thread nD τ).loc cc0_scratch0) ↦{fullShare} gAll m)
    ∗ semVal (barCell c) 0 ∗ each (fun j => semVal (sendCell c j) 0) ∗ each fun j => semVal (recvCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => idxAt m c
    | ⟨2, _⟩ => wAt m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem fetched (w : Fin 4) (hw : w ≠ 3) (t : Fin cfg0.N) : (cfg0.win w).fetch t = true := by
  rw [fin_N t]; revert w; decide

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost : sProp 𝕄 :=
  iprop(Φ₁ m c ∗ (dats m ρ 0 c).owesAt () t₀.succ ∗ stg c cc0_stg0_0 (xAt m c) ∗ stg c cc0_stg1_0 (idxAt m c)
    ∗ stg c cc0_stg2_0 (wAt m c) ∗ stg c cc0_stg3_0 (outAt m c))

/-- Device `c`'s run of the body. -/
theorem body_run :
    bodyPre m ρ c ⊢ run c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) fun _ => bodyPost m ρ c := by
  rw [body_loops]
  unfold bodyLoops run
  simp only [Prog.lift, Prog.bind_op, Prog.bind_ret, wp_deviceId]
  unfold bodyPre Φ₀ start
  iintro ⟨⟨⟨⟨%K, Hghost⟩, ⟨HcB, HcR⟩, #Hlev⟩, ⟨%fg, Hg⟩⟩, Ho, ⟨%d0, %g0, %hg0, Hx⟩, ⟨%d1, %g1, %hg1, Hi⟩, ⟨%d2, %g2, %hg2, Hw⟩, ⟨%d3, %g3, %hg3, Hout⟩⟩
  have hx : g0 = xAt m c := by rw [hg0]; unfold Dat.before; rw [if_pos (fetched 0 (by decide) t₀)]; rfl
  have hi : g1 = idxAt m c := by rw [hg1]; unfold Dat.before; rw [if_pos (fetched 1 (by decide) t₀)]; rfl
  have hw : g2 = wAt m c := by rw [hg2]; unfold Dat.before; rw [if_pos (fetched 2 (by decide) t₀)]; rfl
  subst hx hi hw
  unfold ghost
  icases Hghost with ⟨#HR, ⟨HaB, HaS, HaR⟩, HtB, HtS, HtR⟩
  unfold Dat.owesAt Pipeline.owesWithin
  icases Ho with ⟨%W, %hW, HO⟩
  rw [show (dats m ρ 0 c).owed t₀.castSucc = O₀ c from rfl]
  ihave Hrows := (Entails.of_eq (whole_split c c fullShare fg)) $$ Hg
  icases Hrows with ⟨Hown, Hpeers⟩
  iapply (signals m K c)
  isplitr; · iexact HR
  isplitl [HtB Hpeers]
  · isplitl [HtB]; · iexact HtB
    iapply (show (each (fun j => rowPts c (peer c j) fullShare fg) : sProp 𝕄) ⊢ each fun j => iprop(∃ f, rowPts c (peer c j) fullShare f) from
      bigSep_mono fun j _ => exists_intro (Φ := fun f : GBuf F => rowPts c (peer c j) fullShare f) fg); iexact Hpeers
  isplitl [HO]; · unfold owing; iexists W; iexact HO
  iintro HO
  iapply (compute_run m c fg)
  isplitl [Hown]; · iexact Hown
  isplitl [Hx]; · iexact Hx
  isplitl [Hi]; · iexact Hi
  isplitl [Hw]; · iexact Hw
  iintro ⟨Hrow, Hx, Hi, Hw⟩
  iapply (exchange_run m K c g3)
  isplitr; · iexact HR
  isplitr; · iexact Hlev
  isplitl [Hrow]; · iexact Hrow
  isplitl [Hout]; · iexact Hout
  isplitl [HcB HcR]; · isplitl [HcB] <;> iassumption
  isplitl [HaB HaS HaR]
  · isplitl [HaB]; · iexact HaB
    isplitl [HaS] <;> iassumption
  isplitl [HtS HtR]; · isplitl [HtS] <;> iassumption
  isplitl [HO]; · iexact HO
  iintro ⟨Hg, Hout, HzB, HzS, HzR, HO⟩
  unfold owing
  icases HO with ⟨%W', HO⟩
  unfold bodyPost Φ₁ Dat.owesAt Pipeline.owesWithin
  rw [show (dats m ρ 0 c).owed t₀.succ = 0 from rfl]
  isplitl [Hg HzB HzS HzR]
  · isplitl [Hg]; · iexact Hg
    isplitl [HzB]; · iexact HzB
    isplitl [HzS] <;> iassumption
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 30000 in
/-- The library's body obligation on device `c`. -/
theorem body_obligation : BodyObligation (dats (F := F) m ρ 0 c) (defs₀ (F := F)) 𝒱₀ () Set.univ := fun t => by
  rw [fin_N t]
  rw [bigSep_W, bigSep_W]
  simp only [owns_whole_eq]
  show bodyPre m ρ c ⊢ run c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) fun _ => bodyPost m ρ c
  exact body_run m ρ c

end Cert.KernelIdeal.Run
-- ==== Proof.KernelIdeal.Exchange.lean ====
/-
The launch: what every device starts from is minted and dealt, the pipeline runs the body on every device, and the run's
final memory is read.
-/
module

public import proofs.«01_k».proof.Proof.KernelIdeal.Device
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells of a device -/

/-- A device's transfer cells: the sends and the receives. -/
theorem bigSep_xfer (Φ : Bool × Fin 31 → sProp 𝕄) :
    bigSep Finset.univ Φ = iprop(each (fun j => Φ (false, j)) ∗ each fun j => Φ (true, j)) :=
  (bigSep_univ_prod Φ).trans (bigSep_univ_eq_bigSepL [false, true] (by decide) (by decide) _)

/-- A device's cells: the barrier's, the sends and the receives. -/
theorem bigSep_cells (Φ : Option (Bool × Fin 31) → sProp 𝕄) :
    bigSep Finset.univ Φ = iprop(Φ none ∗ each (fun j => Φ (some (false, j))) ∗ each fun j => Φ (some (true, j))) := by
  have hn : none ∉ (Finset.univ : Finset (Bool × Fin 31)).map Function.Embedding.some := by
    rw [Finset.mem_map]; rintro ⟨_, _, h⟩; cases h
  have hu : (Finset.univ : Finset (Option (Bool × Fin 31))) = insert none ((Finset.univ : Finset (Bool × Fin 31)).map Function.Embedding.some) := by
    refine (Finset.eq_univ_iff_forall.mpr fun k => ?_).symm
    rcases k with _ | k
    · exact Finset.mem_insert_self _ _
    · exact Finset.mem_insert_of_mem (Finset.mem_map.mpr ⟨k, Finset.mem_univ _, rfl⟩)
  refine (congrArg (fun s => bigSep s Φ) hu).trans ((bigSep_insert hn).trans ?_)
  exact congrArg (fun P => iprop(Φ none ∗ P)) ((bigSep_map Function.Embedding.some).trans (bigSep_xfer fun bj => Φ (some bj)))

/-! ## Minting -/

def xCells : Finset (GSem nD τ sig) := Finset.univ.map ⟨kcell, kcell_inj⟩

/-- A device's own cells' duty tokens: a barrier's 31, one of each transfer cell. -/
abbrev tokOf (x : Dev nD × Option (Bool × Fin 31) × Fin 31) : GSem nD τ sig × ℕ × Fin 31 := (kcell (x.1, x.2.1), 0, x.2.2)
theorem tokOf_inj : Function.Injective tokOf := by
  rintro ⟨c, k, j⟩ ⟨c', k', j'⟩ h
  have h1 : (c, k) = (c', k') := kcell_inj (congrArg Prod.fst h)
  have h2 : j = j' := congrArg (fun x : GSem nD τ sig × ℕ × Fin 31 => x.2.2) h
  cases h1; cases h2; rfl
def xToks : Finset (GSem nD τ sig × ℕ × Fin 31) := Finset.univ.map ⟨tokOf, tokOf_inj⟩

def u₀ : UU :=
  (initOf (Pipeline.cells cfgs cellOf_inj) (Pipeline.launchToks cfgs cellOf_inj), initOf xCells xToks)

/-- The duty tokens of device `c`'s own cells that are ever paid. -/
def toks (c : Dev nD) : sProp 𝕄 :=
  iprop(each (fun j => dutyTok ER (barCell c) 0 j) ∗ each (fun j => dutyTok ER (sendCell c j) 0 0) ∗ each fun j => dutyTok ER (recvCell c j) 0 0)

/-- What the launch deals device `c`; -/
def G (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ toks c)
/-- and what the global step makes of it. -/
def G' (c : Dev nD) : sProp 𝕄 := iprop(∃ K, ghost m K c)

theorem toks_of (c : Dev nD) :
    (bigSep Finset.univ fun kj : Option (Bool × Fin 31) × Fin 31 => dutyTok ER (kcell (c, kj.1)) 0 kj.2 : sProp 𝕄) ⊢ toks c := by
  rw [bigSep_univ_prod (fun kj : Option (Bool × Fin 31) × Fin 31 => (dutyTok ER (kcell (c, kj.1)) 0 kj.2 : sProp 𝕄)), bigSep_cells]
  unfold toks
  exact sep_mono_right (BI.sep_mono (bigSep_mono fun j _ => bigSep_elim (Finset.mem_univ (0 : Fin 31)))
    (bigSep_mono fun j _ => bigSep_elim (Finset.mem_univ (0 : Fin 31))))

theorem fund_exchange : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k => Φ (kcell (c, k)) := by
    unfold xCells; rw [bigSep_map, bigSep_univ_prod]; rfl
  have hT : bigSep xToks (fun x => (dutyTok ER x.1 x.2.1 x.2.2 : sProp 𝕄)) ⊢ bigSep Finset.univ fun c : Dev nD => toks c := by
    unfold xToks; rw [bigSep_map, bigSep_univ_prod]
    exact bigSep_mono fun c _ => toks_of c
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

/-- The kernel's own semaphores are the transfer cells'; -/
theorem ownSems0_eq (c : Dev nD) : (Pipeline.ownSems0 (Ix := Unit) (Name := ℕ) (U := UU) (Lvl := ℕ) (Val := Elt F) (τ := τ) osem c : sProp 𝕄)
    = iprop(each (fun j => semVal (sendCell c j) 0) ∗ each fun j => semVal (recvCell c j) 0) := by
  unfold Pipeline.ownSems0; exact bigSep_xfer _
/-- the launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((atPos ER (barCell c) 0 ∅ 0 ∗ each (fun j => atPos ER (sendCell c j) 0 ∅ 0) ∗ each fun j => atPos ER (recvCell c j) 0 ∅ 0)
    ∗ each (fun j => dutyTok ER (barCell (peer c j)) 0 j) ∗ each (fun j => dutyTok ER (sendCell c j) 0 0)
    ∗ each fun j => dutyTok ER (recvCell (peer c j) j) 0 0)

/-- What every device has of every hop, every device's hop leads to. -/
theorem around (Φ : Dev nD → Fin 31 → sProp 𝕄) :
    (bigSep Finset.univ fun c : Dev nD => each fun j => Φ c j) = bigSep Finset.univ fun c : Dev nD => each fun j => Φ (peer c j) j :=
  (bigSep_univ_comm Φ).trans ((bigSep_congr fun j _ => bigSep_univ_equiv (hopEquiv j) fun c => Φ c j).trans
    (bigSep_univ_comm fun (j : Fin 31) (c : Dev nD) => Φ (peer c j) j))

/-- Each duty's token goes to the device that pays the duty. -/
theorem toks_around : (bigSep Finset.univ fun c : Dev nD => (toks c : sProp 𝕄))
    ⊢ bigSep Finset.univ fun c : Dev nD => iprop(each (fun j => dutyTok ER (barCell (peer c j)) 0 j) ∗ each (fun j => dutyTok ER (sendCell c j) 0 0)
        ∗ each fun j => dutyTok ER (recvCell (peer c j) j) 0 0) := by
  unfold toks
  rw [bigSep_sep', bigSep_sep', bigSep_sep', bigSep_sep', around (fun c j => (dutyTok ER (barCell c) 0 j : sProp 𝕄)),
    around (fun c j => (dutyTok ER (recvCell c j) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Bool × Fin 31) => iprop(∃ κ : ℕ, cellInv ER (Rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 31) => (reached ER (kcell ck) 0 : sProp 𝕄))]
  iintro ⟨HI, ⟨Hat, #HR⟩, Htok⟩
  ihave HK := (BI.bigSep_exists_pi Finset.univ (fun (ck : Dev nD × Option (Bool × Fin 31)) (κ : ℕ) => (cellInv ER (Rd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold linear G' ghost
    iintro H; iexists K; iexact H)
  isplitr
  · unfold records; isplitl; · iexact HI
    iexact HR
  · unfold linear
    rw [bigSep_sep' Finset.univ (fun c : Dev nD => iprop(atPos ER (barCell c) 0 ∅ 0 ∗ each (fun j => atPos ER (sendCell c j) 0 ∅ 0) ∗ each fun j => atPos ER (recvCell c j) 0 ∅ 0))]
    isplitl [Hat]
    · iapply (show (bigSep Finset.univ fun c : Dev nD => bigSep Finset.univ fun k => (atPos ER (kcell (c, k)) 0 ∅ 0 : sProp 𝕄)) ⊢ _ from
        bigSep_mono fun c _ => Entails.of_eq (bigSep_cells fun k => atPos ER (kcell (c, k)) 0 ∅ 0))
      iexact Hat
    · iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_hops (f : Fin 31 → CellTallies nD τ sig Unit) : (hops.map f).sum = ∑ j, f j :=
  (List.sum_toFinset f (by decide : hops.Nodup)).symm.trans (Finset.sum_congr (by decide) fun _ _ => rfl)

theorem tallies_apply (f : Fin 31 → CellTallies nD τ sig Unit) (g : GSem nD τ sig) : (∑ j, f j) g () = ∑ j, f j g () := by
  rw [Finset.sum_apply, Finsupp.finset_sum_apply]

theorem peer_iff (d c : Dev nD) (j : Fin 31) : Iff (peer d j = c) (d = peer c (back j)) :=
  ⟨fun h => by rw [← h, peer_back], fun h => by rw [h, peer_back']⟩

theorem bar_iff {a b : Dev nD} : Iff (barCell a = barCell b) (a = b) :=
  ⟨fun h => congrArg (fun g : GSem nD τ sig => g.1.1) h, fun h => h ▸ rfl⟩
theorem recv_iff {a b : Dev nD} {i j : Fin 31} : Iff (recvCell a i = recvCell b j) (a = b ∧ i = j) := by
  constructor
  · intro h
    have h1 : ((a, some (true, i)) : Dev nD × Option (Bool × Fin 31)) = (b, some (true, j)) := kcell_inj h
    cases h1; exact ⟨rfl, rfl⟩
  · rintro ⟨rfl, rfl⟩; rfl
theorem bar_ne_recv {a b : Dev nD} {j : Fin 31} : barCell a ≠ recvCell b j := fun h => by
  have h1 : ((a, none) : Dev nD × Option (Bool × Fin 31)) = (b, some (true, j)) := kcell_inj h
  cases h1

theorem tally_val (g g' : GSem nD τ sig) (n : ℕ) [Decidable (g' = g)] : (tallyAt g' () n : CellTallies nD τ sig Unit) g () = if g' = g then n else 0 := by
  rw [tallyAt_apply]
  by_cases h : g' = g
  · rw [if_pos ⟨h.symm, rfl⟩, if_pos h]
  · rw [if_neg fun h' => h h'.1.symm, if_neg h]

/-- What device `d` owes device `c`'s barrier: a unit for the hop from `d` to `c`. -/
theorem owed_bar (d c : Dev nD) : O₀ d (barCell c) () = ∑ j : Fin 31, if d = peer c (back j) then 1 else 0 := by
  classical
  unfold O₀ O₁
  rw [sum_hops, sum_hops, Pi.add_apply, Finsupp.add_apply, tallies_apply, tallies_apply,
    Finset.sum_eq_zero (fun j _ => by unfold recvOwe; rw [tally_val, if_neg (Ne.symm bar_ne_recv)]), Nat.zero_add]
  exact Finset.sum_congr rfl fun j _ => by
    unfold barOwe; rw [tally_val]; exact if_congr (bar_iff.trans (peer_iff d c j)) rfl rfl

/-- What device `d` owes device `c`'s receive cell `j`: a row if hop `j` leads from `d` to `c`. -/
theorem owed_recv (d c : Dev nD) (j : Fin 31) : O₀ d (recvCell c j) () = if d = peer c (back j) then N else 0 := by
  classical
  have h0 : ∑ i, barOwe d i (recvCell c j) () = 0 :=
    Finset.sum_eq_zero fun i _ => by unfold barOwe; rw [tally_val, if_neg bar_ne_recv]
  unfold O₀ O₁
  rw [sum_hops, sum_hops, Pi.add_apply, Finsupp.add_apply, tallies_apply, tallies_apply, h0, Nat.add_zero,
    Finset.sum_eq_single j (fun i _ hi => by unfold recvOwe; rw [tally_val, if_neg fun h => hi (recv_iff.mp h).2])
      (fun h => absurd (Finset.mem_univ j) h)]
  unfold recvOwe
  rw [tally_val]
  exact if_congr ((recv_iff.trans (and_iff_left rfl)).trans (peer_iff d c j)) rfl rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (peer c (back j)) fun _ => 1).trans (if_pos (Finset.mem_univ _))]
  rfl

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer c (back j)) fun _ => N, if_pos (Finset.mem_univ _)]

theorem creds (c : Dev nD) :
    (Pipeline.launchCred O₀ c : sProp 𝕄) ⊢ iprop(cred (tallyAt (barCell c) () 31) ∗ each fun j => cred (tallyAt (recvCell c j) () N)) := by
  have hsub : (bigSep Finset.univ fun sm : SemLoc sig => (cred (tallyOn ((c.tc : Thread nD τ), sm) (launchCredit (Pipeline.owing O₀) 0 ((c.tc : Thread nD τ), sm))) : sProp 𝕄))
      ⊢ bigSep (Finset.univ.map ⟨csem, csem_inj⟩) fun sm => cred (tallyOn ((c.tc : Thread nD τ), sm) (launchCredit (Pipeline.owing O₀) 0 ((c.tc : Thread nD τ), sm))) :=
    bigSep_subset (Finset.subset_univ _)
  unfold Pipeline.launchCred
  refine hsub.trans ((Entails.of_eq ((bigSep_map ⟨csem, csem_inj⟩).trans (bigSep_cells _))).trans ?_)
  refine BIClass.sep_mono (Entails.of_eq (congrArg cred (launch_bar c))) (sep_elim_right.trans ?_)
  exact bigSep_mono fun j _ => Entails.of_eq (congrArg cred (launch_recv c j))

/-! ## The launch theorem's side conditions -/

theorem ownSemFacts : Pipeline.OwnSemFacts cfg0.spec osem where
  isScoped := by decide
  inj := osem_inj
  disj := by decide

theorem share_eq (c : Dev nD) (w : Fin cfg0.W) : (dats m ρ 0 c).share w = fullShare := by unfold Dat.share; split <;> rfl

/-- The array that no window stages, held beside the run. -/
def unstaged (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unstaged m c) := by
  rw [Pipeline.unscopedRestP_none, unscopedRest0_eq]
  iintro ⟨Hrest, Hlev, Hcr, -, HG⟩
  ihave Hc := (creds (F := F) c) $$ Hcr
  imodintro
  unfold start G' unstaged
  isplitr [Hrest]
  · isplitl [HG]; · iexact HG
    isplitl [Hc]; · iexact Hc
    iexact Hlev
  · iexact Hrest

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzB, HzS, HzR⟩
  isplitl [HzB]; · iexact HzB
  isplitl [HzS HzR]
  · isplitl [HzS] <;> iassumption
  iexists (gAll m); iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What the final memory holds: the windows' arrays as the pipeline leaves them, the unstaged array as it was. -/
def final (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

theorem read_final (c : Dev nD) (s' : Phys nD τ sig (Elt F)) :
    iprop(unscopedSems0 c ∗ unstaged m c ∗ SI s') ⊢ |={Set.univ}=> (iprop(⌜s'.mem.mem ((c : Thread nD τ).loc main_arg1) = m ((c : Thread nD τ).loc main_arg1)
        ∧ ∀ sm : SemLoc sig, sm.isScoped .tc = false → s'.mem.sem ((c.tc : Thread nD τ), sm) = 0⌝ ∗ SI s') : sProp 𝕄) := by
  refine Laws.pure_elim (s'.mem.mem ((c : Thread nD τ).loc main_arg1) = m ((c : Thread nD τ).loc main_arg1)) ?_ fun h => ?_
  · unfold unstaged
    exact (sep_elim_right.trans (sep_comm.1.trans SI_pointsTo_agree)).trans (Laws.pure_mono fun h => funext fun i => h i (Finset.mem_univ i))
  · iintro ⟨Hu, -, HSI⟩
    imod (Pipeline.unscopedSems0_read (X := unscopedSems0 c) (c := c) fupd_intro s') $$ [Hu HSI] with ⟨%hz, HSI⟩
    · isplitl [Hu] <;> iassumption
    imodintro
    isplitr
    · ipureintro; exact ⟨h, hz⟩
    · iexact HSI

set_option maxRecDepth 8000 in
/-- At the compiled mesh, for any float values, from any memory with zero counters: every weakly fair execution of the
    kernel on all devices ends, with the arrays as `final` says and every semaphore counter at zero. -/
theorem run_main : θ_run defs (onTc (τ := τ) (main (F := F))) (s₀ m ρ) (fun r => final m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := unstaged m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => read_final m c s')
    (hQ := fun s h hs => ⟨fun c => ⟨fun w => (h c).1 w, (h c).2.2.1⟩, sem_eq_zero hs fun c => (h c).2.2.2⟩)

/-- A staged input holds after the run what it held. -/
theorem finalA_in (c : Dev nD) (w : Fin 4) (hw : w ≠ 3) : finalA m ρ c w = m ((cfg0.win w).arr.view.loc (c : Thread nD τ)) :=
  (dats (F := F) m ρ 0 c).arrAt_in w (by revert w; decide) _

end Cert.KernelIdeal.Run
-- ==== Proof.Value.InRange.lean ====
/- The precondition at an index: every token's expert is one of the 64. -/
module

public import proofs.«01_k».proof.Proof.Gen.Pre_in_range_KernelIdeal
public import Idealize.ShloMosaic.Lib.Pointwise
public import Idealize.ShloMosaic.Lib.Affine
public import Idealize.ShloMosaic.Lib.ReduceAll
public import Idealize.ShloMosaic.Lib.WordArith

@[expose] public section

noncomputable section

namespace Cert.Pre_in_range_KernelIdeal.Value

open Idealize.ShloMosaic Cert.Pre_in_range_KernelIdeal Cert.Pre_in_range_KernelIdeal.Gen

/-- A word between 0 and 63, read signed, is the word of an expert. -/
theorem word_expert (v : BitVec 32) (h0 : 0 ≤ v.toInt) (h1 : v.toInt < 64) : ∃ k : Fin 64, v = BitVec.ofNat 32 k.val := by
  refine ⟨⟨v.toInt.toNat, by omega⟩, BitVec.eq_of_toInt_eq ?_⟩
  rw [WordArith.toInt_ofNat_small _ (by omega)]
  exact (Int.toNat_of_nonneg h0).symm

/-- Where the precondition holds, every token names an expert. -/
theorem experts (x : FVec Ideal S512x256 .bf16) (gate : FVec Ideal S256x64 .bf16) (idx : IVec S512x1 32) (W : FVec Ideal S2x256x512 .bf16)
    (h : fn (F := Ideal) x gate idx W = fun _ => 1#1) : ∃ e : Fin 512 → Fin 64, ∀ t : Fin 512, idx (ix2 t 0) = BitVec.ofNat 32 (e t).val := by
  have one : Subsingleton S_.Idx := ⟨fun a b => funext fun k => k.elim0⟩
  have hk : ∀ t : Fin 512, ∃ k : Fin 64, idx (ix2 t 0) = BitVec.ofNat 32 k.val := fun t => by
    have h' := congrFun h ix0
    dsimp only [fn] at h'
    obtain ⟨ha, hb⟩ := IntOp.andi_eq_one.1 (Host.reduce_andi_all _ _ _ _ _ h' (ix2 t 0))
    exact word_expert _ (IntOp.cmpi_sge.1 ha) (IntOp.cmpi_slt.1 hb)
  exact ⟨fun t => (hk t).choose, fun t => (hk t).choose_spec⟩

end Cert.Pre_in_range_KernelIdeal.Value
-- ==== Proof.Value.Count.lean ====
/- The routing arithmetic: how many earlier tokens chose a token's expert, and the slot that number gives it. -/
module

public import Mathlib.Data.EReal.Operations
public import Idealize.ShloMosaic.PureOps.Ideal

@[expose] public section

namespace Cert.Route

open Idealize.ShloMosaic

/-- The number of earlier tokens that chose the expert token `t` chose. -/
def before (e : Fin 512 → Fin 64) (t : Fin 512) : Nat := (Finset.univ.filter fun u => u < t ∧ e u = e t).card

/-- Token `t`'s slot: six per expert, taken in token order; 384, past the last one, when the expert is full. -/
def slot (e : Fin 512 → Fin 64) (t : Fin 512) : Nat := if before e t < 6 then (e t).val * 6 + before e t else 384

theorem before_le (e : Fin 512 → Fin 64) (t : Fin 512) : before e t ≤ 512 :=
  (Finset.card_le_univ _).trans (Fintype.card_fin _).le

theorem slot_le (e : Fin 512 → Fin 64) (t : Fin 512) : slot e t ≤ 384 := by
  unfold slot
  have := (e t).isLt
  split <;> omega

/-- A later token of the same expert has more tokens before it. -/
theorem before_lt (e : Fin 512 → Fin 64) {u t : Fin 512} (h : u < t) (he : e u = e t) : before e u < before e t := by
  refine Finset.card_lt_card (Finset.ssubset_iff_subset_ne.2 ⟨fun v hv => ?_, fun hE => ?_⟩)
  · rw [Finset.mem_filter] at hv ⊢
    exact ⟨hv.1, hv.2.1.trans h, hv.2.2.trans he⟩
  · have hu : u ∈ Finset.univ.filter fun v => v < u ∧ e v = e u := by
      rw [hE]; exact Finset.mem_filter.2 ⟨Finset.mem_univ _, h, he⟩
    exact lt_irrefl _ (Finset.mem_filter.1 hu).2.1

/-- No two tokens share a slot below 384. -/
theorem slot_inj (e : Fin 512 → Fin 64) {u t : Fin 512} (ht : slot e t < 384) (h : slot e u = slot e t) : u = t := by
  unfold slot at ht h
  have ht6 : before e t < 6 := by by_contra hn; rw [if_neg hn] at ht; omega
  rw [if_pos ht6] at ht h
  have hu6 : before e u < 6 := by by_contra hn; rw [if_neg hn] at h; omega
  rw [if_pos hu6] at h
  have he : e u = e t := Fin.ext (by omega)
  have hb : before e u = before e t := by omega
  rcases lt_trichotomy u t with hl | hl | hl
  · exact absurd hb (before_lt e hl he).ne
  · exact hl
  · exact absurd hb.symm (before_lt e hl he.symm).ne

/-- A kept token's slot names its expert: slot `12 d + s` is row `s` of device `d`, whose expert `s / 6` is expert `2 d + s / 6`. -/
theorem slot_expert (e : Fin 512 → Fin 64) (t : Fin 512) (h : before e t < 6) : slot e t < 384 ∧ slot e t / 6 = (e t).val := by
  unfold slot
  rw [if_pos h]
  have := (e t).isLt
  constructor <;> omega

/-- A sum of ones over the indices with a property counts them. -/
theorem sum_ones (p : Fin 512 → Prop) [DecidablePred p] :
    (∑ u, if p u then (1 : EReal) else 0) = ((Finset.univ.filter p).card : EReal) := by
  rw [Finset.sum_ite, Finset.sum_const_zero, add_zero, Finset.sum_const, nsmul_one]

/-- Summing the earlier tokens of each expert, and keeping the column of token `t`'s expert, counts the tokens before it. -/
theorem sum_before (e : Fin 512 → Fin 64) (t : Fin 512) :
    (∑ j : Fin 64, (∑ u : Fin 512, (if u < t then (1 : EReal) else 0) * if e u = j then 1 else 0) * if e t = j then 1 else 0)
      = (before e t : EReal) := by
  simp only [mul_ite, mul_one, mul_zero]
  rw [Finset.sum_ite_eq Finset.univ (e t), if_pos (Finset.mem_univ _), before, ← sum_ones]
  refine Finset.sum_congr rfl fun u _ => ?_
  by_cases h1 : e u = e t <;> by_cases h2 : u < t <;> simp [h1, h2]

/-- A natural below 2³¹ converts to the word that holds it. -/
theorem fptosi_nat (n : Nat) (hn : n < 2 ^ 31) : Ideal.fptosi 32 (n : EReal) = BitVec.ofNat 32 n := by
  have e : (n : EReal) = ((n : ℝ) : EReal) := rfl
  have hf : ⌊(n : ℝ)⌋ = (n : Int) := Int.floor_natCast n
  unfold Ideal.fptosi
  rw [e, Ideal.toIntClamped_coe, if_pos (Nat.cast_nonneg n), hf]
  have : max (-((2 ^ (32 - 1) : Nat) : Int)) (min (((2 ^ (32 - 1) : Nat) : Int) - 1) (n : Int)) = (n : Int) := by
    have h2 : ((2 ^ (32 - 1) : Nat) : Int) = 2147483648 := by norm_num
    rw [h2]; omega
  rw [this]
  exact BitVec.ofInt_natCast 32 n

end Cert.Route
-- ==== Proof.Value.Payload.lean ====
/- What each of the kernel's payloads holds at an index, in exact arithmetic. -/
module

public import proofs.«01_k».proof.Proof.KernelIdeal.Body
public import proofs.«01_k».proof.Proof.Value.Count
public import Idealize.ShloMosaic.Lib.Pointwise
public import Idealize.ShloMosaic.Lib.WordCmp

@[expose] public section

set_option maxRecDepth 16384

noncomputable section

namespace Cert.KernelIdeal.Value

open Idealize.ShloMosaic Cert.KernelIdeal Cert.KernelIdeal.Gen Cert.Route

/-- A comparison's bit, widened and read as a float, is the indicator. -/
theorem indicator (p : Prop) [Decidable p] :
    FloatOps.sitofp (F := Ideal) FTy.f32 (BitVec.setWidth 32 (BitVec.ofBool (decide p))) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

/-- The combining product: row `t` of the one-hot matrix against the gathered rows, twelve to a device. -/
theorem pay5_apply (q : FVec Ideal S512x384 .bf16) (g : Vec Ideal S32x12x512 .bf16) (t h : Fin 512) :
    k0_pay5 (F := Ideal) q g (ix2 t h)
      = ∑ s : Fin 384, q (ix2 t s) * g (ix3 (⟨s.val / 12, by omega⟩ : Fin 32) (⟨s.val % 12, by omega⟩ : Fin 12) h) := by
  pointwise [k0_pay5]

/-- The combining one-hot matrix. -/
theorem pay4_apply (v : IVec S512x1 32) (t : Fin 512) (s : Fin 384) (n : Nat) (hn : n ≤ 384) (hv : v (ix2 t 0) = BitVec.ofNat 32 n) :
    k0_pay4 (F := Ideal) v (ix2 t s) = if n = s.val then (1 : EReal) else 0 := by
  pointwise [k0_pay4]
  rw [hv, WordCmp.cmpi_eq_ofNat (by omega) (by omega), indicator]

/-- What a device puts in row `s` of its block: the selected tokens against the weights of its expert `s / 6`. -/
theorem pay3_apply (q : FVec Ideal S512x12 .bf16) (x : Vec Ideal S512x256 .bf16) (w : Vec Ideal S2x256x512 .bf16) (s : Fin 12) (h : Fin 512) :
    k0_pay3 (F := Ideal) q x w (ix3 0 s h)
      = ∑ d : Fin 256, (∑ t : Fin 512, q (ix2 t s) * x (ix2 t d)) * w (ix3 (⟨s.val / 6, by omega⟩ : Fin 2) d h) := by
  pointwise [k0_pay3]
  split
  · next hs =>
    have e : (⟨s.val / 6, by omega⟩ : Fin 2) = 0 := Fin.ext (by show s.val / 6 = 0; omega)
    rw [e]
  · next hs =>
    have e : (⟨s.val / 6, by omega⟩ : Fin 2) = 1 := Fin.ext (by show s.val / 6 = 1; omega)
    have e' : (⟨6 + (s.val - 6), by omega⟩ : Fin 12) = s := Fin.ext (by show 6 + (s.val - 6) = s.val; omega)
    simp only [e, e']

/-- Device `me`'s selecting one-hot matrix. -/
theorem pay2_apply (me : Fin 32) (v : Vec Ideal S512x1 .i32) (t : Fin 512) (s : Fin 12) (n : Nat) (hn : n ≤ 384)
    (hv : k0_pay1 (F := Ideal) v (ix2 t 0) = BitVec.ofNat 32 n) :
    k0_pay2 (F := Ideal) (BitVec.ofNat 32 me.val) v (ix2 t s) = if n = me.val * 12 + s.val then (1 : EReal) else 0 := by
  have hw : IntOp.addi (BitVec.ofNat 32 s.val) (Scalar.muli (BitVec.ofNat 32 me.val) 12#32) = BitVec.ofNat 32 (me.val * 12 + s.val) := by
    show BitVec.ofNat 32 s.val + BitVec.ofNat 32 me.val * BitVec.ofNat 32 12 = _
    rw [← BitVec.ofNat_mul, ← BitVec.ofNat_add, Nat.add_comm]
  pointwise [k0_pay2]
  rw [hv, hw, WordCmp.cmpi_eq_ofNat (by omega) (by omega), indicator]

/-- Token `t`'s slot. -/
theorem pay1_apply (v : Vec Ideal S512x1 .i32) (e : Fin 512 → Fin 64) (hv : ∀ t : Fin 512, v (ix2 t 0) = BitVec.ofNat 32 (e t).val) (t : Fin 512) :
    k0_pay1 (F := Ideal) v (ix2 t 0) = BitVec.ofNat 32 (slot e t) := by
  have hb := before_le e t
  have hlt : ∀ a b : Fin 512, IntOp.cmpi .slt (BitVec.ofNat 32 a.val) (BitVec.ofNat 32 b.val) = BitVec.ofBool (decide (a < b)) := fun a b => by
    rw [WordCmp.cmpi_slt_ofNat (by omega) (by omega)]; rfl
  have heq : ∀ (u : Fin 512) (j : Fin 64), IntOp.cmpi .eq (BitVec.ofNat 32 (e u).val) (BitVec.ofNat 32 j.val) = BitVec.ofBool (decide (e u = j)) := fun u j => by
    rw [WordCmp.cmpi_eq_ofNat (by omega) (by omega)]; simp only [Fin.ext_iff]
  pointwise [k0_pay1]
  simp only [hv, hlt, heq, indicator]
  rw [sum_before]
  rw [show FloatOps.fptosi (F := Ideal) (φ := .f32) 32 (before e t : EReal) = BitVec.ofNat 32 (before e t) from fptosi_nat _ (by omega)]
  rw [show (6#32 : BitVec 32) = BitVec.ofNat 32 6 from rfl, WordCmp.cmpi_slt_ofNat (by omega) (by omega), Idealize.ShloMosaic.WordCmp.select_decide]
  unfold slot
  split
  · show BitVec.ofNat 32 (e t).val * BitVec.ofNat 32 6 + BitVec.ofNat 32 (before e t) = _
    rw [← BitVec.ofNat_mul, ← BitVec.ofNat_add]
  · rfl

end Cert.KernelIdeal.Value
-- ==== Proof.Value.Kernel.lean ====
/- What the kernel leaves in its result array, in exact arithmetic. -/
module

public import proofs.«01_k».proof.Proof.KernelIdeal.Exchange
public import proofs.«01_k».proof.Proof.Gen.KernelIdeal.Points
public import proofs.«01_k».proof.Proof.Value.Payload
public import Idealize.ShloMosaic.Lib.Pipeline.Value

@[expose] public section

set_option maxRecDepth 16384

noncomputable section

namespace Cert.KernelIdeal.Value

open Idealize.ShloMosaic Idealize.ShloMosaic.TcCoe Cert.KernelIdeal Cert.KernelIdeal.Gen Cert.KernelIdeal.Run Cert.Route

variable (m : (ℓ : Loc nD τ sig) → Buf (Elt Ideal) ℓ) (ρ : Dev nD → PrngReg)

/-! ## A window's one block is its array -/

theorem x_read (c : Dev nD) : xAt m c = m ((c : Thread nD τ).loc main_arg0) := by
  funext i
  show m ((c : Thread nD τ).loc main_arg0) _ = _
  exact congrArg _ (funext fun a => Fin.ext (by exact (congrArg₂ (· + ·) (Nat.zero_mul _) (Nat.one_mul _)).trans (Nat.zero_add _)))

theorem idx_read (c : Dev nD) : idxAt m c = m ((c : Thread nD τ).loc main_arg2) := by
  funext i
  show m ((c : Thread nD τ).loc main_arg2) _ = _
  exact congrArg _ (funext fun a => Fin.ext (by exact (congrArg₂ (· + ·) (Nat.zero_mul _) (Nat.one_mul _)).trans (Nat.zero_add _)))

theorem w_read (c : Dev nD) : wAt m c = m ((c : Thread nD τ).loc main_arg3) := by
  funext i
  show m ((c : Thread nD τ).loc main_arg3) _ = _
  exact congrArg _ (funext fun a => Fin.ext (by exact (congrArg₂ (· + ·) (Nat.zero_mul _) (Nat.one_mul _)).trans (Nat.zero_add _)))

/-- The result array ends as the output block. -/
theorem final_out (c : Dev nD) : finalA m ρ c (3 : Fin 4) = outAt m c := by
  refine (dats m ρ 0 c).arrAt_eq_of_cover (3 : Fin 4) (outAt m c) (fun t _ => ?_) (fun i => ⟨t0_0, flush0_3 _, ?_⟩)
  · rcases fin_N0 t with rfl
    funext i
    show outAt m c _ = outAt m c _
    exact congrArg _ (funext fun a => Fin.ext (by exact ((congrArg₂ (· + ·) (Nat.zero_mul _) (Nat.one_mul _)).trans (Nat.zero_add _)).symm))
  · show (show S512x512.Idx from i) ∈ ((View.whole main_v1).slice (win0_3.rect t0_0)).set
    rw [View.set_slice_whole, Rect.mem_set_unit]
    intro a
    have := (i a).isLt
    fin_cases a
    · exact ⟨Nat.zero_le _, this⟩
    · exact ⟨Nat.zero_le _, this⟩

/-! ## The output block at an index -/

theorem me_word (c : Dev nD) : meWord c = BitVec.ofNat 32 c.val := by revert c; decide

/-- A one-hot sum reads the selected entry. -/
theorem pick {n : Nat} (i : Fin n) (f : Fin n → EReal) (p : Fin n → Prop) [DecidablePred p] (hp : ∀ u, p u ↔ u = i) :
    (∑ u, (if p u then (1 : EReal) else 0) * f u) = f i := by
  rw [Finset.sum_eq_single i (fun u _ hu => by rw [if_neg fun h => hu ((hp u).1 h), zero_mul]) fun h => absurd (Finset.mem_univ i) h,
    if_pos ((hp i).2 rfl), one_mul]

/-- Expert `i` of device `c`, among all the experts. -/
def expert (c : Fin 32) (i : Fin 2) : Fin 64 := ⟨2 * c.val + i.val, by omega⟩

section
variable (x : FVec Ideal S512x256 .bf16) (e : Fin 512 → Fin 64) (W : Fin 64 → Fin 256 → Fin 512 → EReal)
  (hx : ∀ c, xAt m c = x) (hi : ∀ (c : Dev nD) (t : Fin 512), (show IVec S512x1 32 from idxAt m c) (ix2 t 0) = BitVec.ofNat 32 (e t).val)
  (hw : ∀ (c : Dev nD) (i : Fin 2) (d : Fin 256) (h : Fin 512), (show FVec Ideal S2x256x512 .bf16 from wAt m c) (ix3 i d h) = W (expert c i) d h)

include hx hi hw

/-- Row `s` of device `c`'s block of the gathered buffer. -/
theorem gathered (c : Fin 32) (s : Fin 12) (h : Fin 512) :
    (show FVec Ideal S32x12x512 .bf16 from gAll m) (ix3 c s h)
      = ∑ d : Fin 256, (∑ u : Fin 512, (if slot e u = c.val * 12 + s.val then (1 : EReal) else 0) * x (ix2 u d)) * W (expert c ⟨s.val / 6, by omega⟩) d h := by
  have hr : (show FVec Ideal S32x12x512 .bf16 from gAll m) (ix3 c s h) = k0_pay3 (k0_pay2 (meWord c) (idxAt m c)) (xAt m c) (wAt m c) (ix3 0 s h) := by
    show rowAt m c (inRow (ix3 c s h)) = _
    unfold rowAt
    exact congrArg _ (funext fun a => Fin.ext (by fin_cases a <;> rfl))
  rw [hr, me_word, pay3_apply]
  refine Finset.sum_congr rfl fun d _ => congrArg₂ _ (Finset.sum_congr rfl fun u _ => congrArg₂ _ ?_ ?_) ?_
  · exact pay2_apply c _ u s (slot e u) (slot_le e u) (pay1_apply _ e (hi c) u)
  · exact congrFun (hx c) _
  · exact hw c _ d h

/-- The output at token `t`, column `h`. -/
theorem out_apply (c : Dev nD) (t h : Fin 512) :
    (show FVec Ideal S512x512 .bf16 from outAt m c) (ix2 t h) = if before e t < 6 then ∑ d : Fin 256, x (ix2 t d) * W (e t) d h else 0 := by
  have hs : ∀ s : Fin 384, k0_pay4 (F := Ideal) (k0_pay1 (F := Ideal) (idxAt m c)) (ix2 t s) = if slot e t = s.val then (1 : EReal) else 0 := fun s =>
    pay4_apply _ t s (slot e t) (slot_le e t) (pay1_apply _ e (hi c) t)
  show k0_pay5 (k0_pay4 (k0_pay1 (F := Ideal) (idxAt m c))) (gAll m) (ix2 t h) = _
  rw [pay5_apply]
  simp only [hs]
  by_cases hb : before e t < 6
  · obtain ⟨hlt, hex⟩ := slot_expert e t hb
    rw [if_pos hb, pick ⟨slot e t, hlt⟩ _ _ fun u => ⟨fun h => Fin.ext h.symm, fun h => by rw [h]⟩]
    refine (gathered m x e W hx hi hw _ _ h).trans (Finset.sum_congr rfl fun d _ => congrArg₂ _ ?_ ?_)
    · refine pick t (fun u => x (ix2 u d)) _ fun u => ⟨fun hu => slot_inj e hlt ?_, fun hu => ?_⟩
      · rw [hu]; show slot e t / 12 * 12 + slot e t % 12 = _; omega
      · rw [hu]; show _ = slot e t / 12 * 12 + slot e t % 12; omega
    · refine congrArg (fun k => W k d h) (Fin.ext ?_)
      show 2 * (slot e t / 12) + slot e t % 12 / 6 = _
      omega
  · rw [if_neg hb]
    refine Finset.sum_eq_zero fun s _ => ?_
    have : slot e t = 384 := by unfold slot; rw [if_neg hb]
    rw [if_neg (by omega), zero_mul]

end

end Cert.KernelIdeal.Value
-- ==== Proof.Value.Reference.lean ====
/- What the reference computes at an index, in exact arithmetic. -/
module

public import proofs.«01_k».proof.Proof.Gen.ReferenceIdeal.Run
public import proofs.«01_k».proof.Proof.Value.Count
public import Idealize.ShloMosaic.Lib.Pointwise
public import Idealize.ShloMosaic.Lib.WordCmp
public import Idealize.ShloMosaic.Lib.WordArith
public import Idealize.ShloMosaic.Lib.IdealHost
public import Idealize.ShloMosaic.Lib.Routing.OpsOne

@[expose] public section

set_option maxRecDepth 16384

noncomputable section

namespace Cert.ReferenceIdeal.Value

open Idealize.ShloMosaic Cert.ReferenceIdeal Cert.ReferenceIdeal.Gen Cert.Route

/-- The one-hot matrix of the tokens' experts, in words. -/
def hot (idx : IVec S512x1 32) : IVec S512x64 32 :=
  extui 32 (cmpi .eq (broadcastInDim S512x64 ![0, 1] bcast_S512x1_S512x64_0_1 (broadcastInDim S512x1 ![0] bcast_S512_S512x1_0 (shapeCast _ idx shapeCasts_S512x1_S512)))
    (broadcastInDim S512x64 ![0, 1] bcast_S1x64_S512x64_0_1 (iotaInDim S1x64 32 1))) natLt_1_32

/-- Its running sum down the tokens. -/
def running (idx : IVec S512x1 32) : IVec S512x64 32 :=
  Host.reduceWindow IntOp.addi ![512, 1] ![1, 1] ![511, 0] ![0, 0] (hot idx) (broadcastInDim S_ ![] bcast_S_S_ (constantI S_ 32 0#32))
    reduceWindows_S512x64_S512x64_w512s1p511_0_w1s1p0_0 h_S_

/-- Each token's rank. -/
def rank (idx : IVec S512x1 32) : IVec S512 32 :=
  Host.reduce IntOp.addi (muli (subi (running idx) (hot idx)) (hot idx)) (constantI S_ 32 0#32) reducesTo_S512x64_S512_d1 h_S_

/-- Each token's expert as the index of a table lookup: a negative one counts from the end. -/
def lookup (idx : IVec S512x1 32) : IVec S512x1 32 :=
  broadcastInDim S512x1 ![0] bcast_S512_S512x1_0 (select (cmpi .slt (shapeCast _ idx shapeCasts_S512x1_S512) (broadcastInDim S512 ![] bcast_S_S512 (constantI S_ 32 0#32)))
    (addi (shapeCast _ idx shapeCasts_S512x1_S512) (broadcastInDim S512 ![] bcast_S_S512 (constantI S_ 32 64#32))) (shapeCast _ idx shapeCasts_S512x1_S512))

/-- Each token's expert's weights. -/
def weights (idx : IVec S512x1 32) (W : FVec Ideal S64x256x512 .bf16) : FVec Ideal S512x256x512 .bf16 :=
  Host.gather gather_S64x256x512_S512x1_S512x256x512_12_0_n_n_0_1_1256512 W (lookup idx)

/-- The reference's result. -/
def result (x : FVec Ideal S512x256 .bf16) (idx : IVec S512x1 32) (W : FVec Ideal S64x256x512 .bf16) : FVec Ideal S512x512 .bf16 :=
  truncf .bf16 (select (broadcastInDim S512x512 ![0, 1] bcast_S512x1_S512x512_0_1 (broadcastInDim S512x1 ![0] bcast_S512_S512x1_0
      (cmpi .slt (rank idx) (broadcastInDim S512 ![] bcast_S_S512 (constantI S_ 32 6#32)))))
    (Host.dotGeneral dot_S512x256_S512x256x512_S512x512_1_1_n_2_0_0 none (extf .f32 x bitsLt_bf16_f32) (extf .f32 (weights idx W) bitsLt_bf16_f32))
    (broadcastInDim S512x512 ![] bcast_S_S512x512 (id (constant S_ .f32 0x00000000#32)))) bitsLt_bf16_f32

theorem hot_apply (idx : IVec S512x1 32) (e : Fin 512 → Fin 64) (hi : ∀ t : Fin 512, idx (ix2 t 0) = BitVec.ofNat 32 (e t).val) (t : Fin 512) (j : Fin 64) :
    hot idx (ix2 t j) = if e t = j then 1#32 else 0#32 := by
  have heq : IntOp.cmpi .eq (BitVec.ofNat 32 (e t).val) (BitVec.ofNat 32 j.val) = BitVec.ofBool (decide (e t = j)) := by
    rw [WordCmp.cmpi_eq_ofNat (by omega) (by omega)]; simp only [Fin.ext_iff]
  pointwise [hot]
  rw [hi, heq]
  split
  · next h => rw [decide_eq_true h]; rfl
  · next h => rw [decide_eq_false h]; rfl

theorem running_apply (idx : IVec S512x1 32) (t : Fin 512) (j : Fin 64) :
    running idx (ix2 t j) = ∑ u : Fin 512, if u ≤ t then hot idx (ix2 u j) else 0 :=
  Routing.cumsum_rows_sum (A := 512) (Am1 := 511) (N := 64) rfl (hot idx) _ rfl _ _ t j

theorem rank_apply (idx : IVec S512x1 32) (e : Fin 512 → Fin 64) (hi : ∀ t : Fin 512, idx (ix2 t 0) = BitVec.ofNat 32 (e t).val) (t : Fin 512) :
    rank idx (ix1 t) = BitVec.ofNat 32 (before e t) := by
  pointwise [rank]
  simp only [running_apply, hot_apply idx e hi]
  show Finset.fold (· + ·) (0 : BitVec 32) (fun j : Fin 64 =>
    ((∑ u : Fin 512, if u ≤ t then if e u = j then (1 : BitVec 32) else 0 else 0) - if e t = j then (1 : BitVec 32) else 0) * if e t = j then (1 : BitVec 32) else 0) Finset.univ = _
  rw [← Finset.sum_eq_fold]
  simp only [mul_ite, mul_one, mul_zero]
  rw [Finset.sum_ite_eq Finset.univ (e t), if_pos (Finset.mem_univ _), if_pos rfl]
  have hs : (∑ u : Fin 512, if u ≤ t then if e u = e t then (1 : BitVec 32) else 0 else 0)
      = (∑ u : Fin 512, if u < t ∧ e u = e t then (1 : BitVec 32) else 0) + ∑ u : Fin 512, if t = u then (1 : BitVec 32) else 0 := by
    rw [← Finset.sum_add_distrib]
    refine Finset.sum_congr rfl fun u _ => ?_
    rcases lt_trichotomy u t with h | h | h
    · by_cases he : e u = e t <;> simp [h, h.le, h.ne', he]
    · subst h; simp
    · simp [not_le.2 h, not_lt.2 h.le, h.ne]
  rw [hs, Finset.sum_ite_eq Finset.univ t, if_pos (Finset.mem_univ _), add_sub_cancel_right, Finset.sum_boole]
  rfl

theorem lookup_apply (idx : IVec S512x1 32) (e : Fin 512 → Fin 64) (hi : ∀ t : Fin 512, idx (ix2 t 0) = BitVec.ofNat 32 (e t).val) (t : Fin 512) :
    lookup idx (ix2 t 0) = BitVec.ofNat 32 (e t).val := by
  pointwise [lookup]
  rw [hi, show (0#32 : BitVec 32) = BitVec.ofNat 32 0 from rfl, WordCmp.cmpi_slt_ofNat (by omega) (by omega), Idealize.ShloMosaic.WordCmp.select_decide,
    if_neg (by omega)]

theorem weights_apply (idx : IVec S512x1 32) (e : Fin 512 → Fin 64) (hi : ∀ t : Fin 512, idx (ix2 t 0) = BitVec.ofNat 32 (e t).val)
    (W : FVec Ideal S64x256x512 .bf16) (t : Fin 512) (d : Fin 256) (h : Fin 512) : weights idx W (ix3 t d h) = W (ix3 (e t) d h) := by
  unfold weights Host.gather
  refine congrArg W (funext fun a => Fin.ext ?_)
  fin_cases a
  · show gather_S64x256x512_S512x1_S512x256x512_12_0_n_n_0_1_1256512.start (ix3 t d h) (lookup idx) 0 + 0 + 0 = (e t).val
    have hs : gather_S64x256x512_S512x1_S512x256x512_12_0_n_n_0_1_1256512.siIdx (ix3 t d h) ⟨0, by decide⟩ = ix2 t 0 := by
      funext b; fin_cases b <;> rfl
    show min (lookup idx (gather_S64x256x512_S512x1_S512x256x512_12_0_n_n_0_1_1256512.siIdx (ix3 t d h) ⟨0, by decide⟩)).toInt.toNat 63 = _
    rw [hs, lookup_apply idx e hi, WordArith.toInt_ofNat_small _ (by omega)]
    omega
  · show 0 + 0 + d.val = d.val
    omega
  · show 0 + 0 + h.val = h.val
    omega

/-- The reference at token `t`, column `h`: the token's row times its expert's weights, or zero when six earlier tokens chose that expert. -/
theorem result_apply (x : FVec Ideal S512x256 .bf16) (idx : IVec S512x1 32) (e : Fin 512 → Fin 64)
    (hi : ∀ t : Fin 512, idx (ix2 t 0) = BitVec.ofNat 32 (e t).val) (W : FVec Ideal S64x256x512 .bf16) (t h : Fin 512) :
    result x idx W (ix2 t h) = if before e t < 6 then ∑ d : Fin 256, x (ix2 t d) * W (ix3 (e t) d h) else (0 : EReal) := by
  pointwise [result]
  simp only [weights_apply idx e hi]
  have := before_le e t
  rw [rank_apply idx e hi, show (6#32 : BitVec 32) = BitVec.ofNat 32 6 from rfl, WordCmp.cmpi_slt_ofNat (by omega) (by omega), Idealize.ShloMosaic.WordCmp.select_decide]
  refine if_congr Iff.rfl rfl ?_
  show Ideal.ofBits .f32 0x00000000#32 = 0
  exact Ideal.ofBits_zero_f32

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Kernel.Exchange
public import proofs.«01_k».proof.Proof.KernelIdeal.Exchange
public import proofs.«01_k».proof.Proof.Value.InRange
public import proofs.«01_k».proof.Proof.Value.Kernel
public import proofs.«01_k».proof.Proof.Value.Reference
public import Idealize.ShloMosaic.Adequacy
public import Idealize.ShloMosaic.Lib.StableHlo.RunHlo
public import Idealize.ShloMosaic.Init

@[expose] public section

noncomputable section

namespace Cert.Proof

open Idealize.ShloMosaic Idealize.ShloMosaic.StableHlo Idealize.SL.Sem

/-- The kernel at machine floats runs to the end, its four arguments unchanged and every counter at zero. -/
theorem frame_kernel : Cert.quiescent_Kernel := fun m ρ _ =>
  θ_run_mono (Cert.Kernel.Run.run_main (F := Bits) m ρ) fun _ h =>
    ⟨fun c => ⟨((h.1 c).1 0).trans (Cert.Kernel.Run.finalA_in m ρ c 0 (by decide)), (h.1 c).2,
      ((h.1 c).1 1).trans (Cert.Kernel.Run.finalA_in m ρ c 1 (by decide)),
      ((h.1 c).1 2).trans (Cert.Kernel.Run.finalA_in m ρ c 2 (by decide))⟩, h.2⟩

/-- The same of the kernel at exact arithmetic. -/
theorem frame_kernelIdeal : Cert.quiescent_KernelIdeal := fun m ρ _ =>
  θ_run_mono (Cert.KernelIdeal.Run.run_main (F := Ideal) m ρ) fun _ h =>
    ⟨fun c => ⟨((h.1 c).1 0).trans (Cert.KernelIdeal.Run.finalA_in m ρ c 0 (by decide)), (h.1 c).2,
      ((h.1 c).1 1).trans (Cert.KernelIdeal.Run.finalA_in m ρ c 1 (by decide)),
      ((h.1 c).1 2).trans (Cert.KernelIdeal.Run.finalA_in m ρ c 2 (by decide))⟩, h.2⟩

/-- The reference is a straight line of host operations and declares no semaphore. -/
theorem frame_referenceIdeal : Cert.quiescent_ReferenceIdeal := fun m ρ _ =>
  θ_run_mono (Cert.ReferenceIdeal.Value.run (F := Ideal) m ρ) fun r h =>
    ⟨fun c => (h c).2, sem_eq_zero_of_no_sems (by decide) r.2⟩

/-- On every device the kernel's output block is the reference's result, when every token names an expert. -/
theorem out_eq_result (m : (ℓ : Loc Cert.KernelIdeal.nD Cert.KernelIdeal.τ Cert.KernelIdeal.sig) → Buf (Elt Ideal) ℓ)
    (x : FVec Ideal Cert.ReferenceIdeal.S512x256 .bf16) (idx : IVec Cert.ReferenceIdeal.S512x1 32) (W : FVec Ideal Cert.ReferenceIdeal.S64x256x512 .bf16)
    (e : Fin 512 → Fin 64) (hi : ∀ t : Fin 512, idx (ix2 t 0) = BitVec.ofNat 32 (e t).val)
    (hm : ∀ c : Dev Cert.KernelIdeal.nD, m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg2) = idx
      ∧ m ((c.tc : Thread Cert.KernelIdeal.nD Cert.KernelIdeal.τ).loc Cert.KernelIdeal.main_arg3) = Layout.block ⟨3, ![2, 256, 512]⟩ ⟨3, ![64, 256, 512]⟩ 0 32 c W)
    (c : Dev Cert.KernelIdeal.nD) : Cert.KernelIdeal.Run.outAt m c = Cert.ReferenceIdeal.Value.result x idx W := by
  refine funext fun i => ?_
  obtain ⟨t, h, rfl⟩ : ∃ t h : Fin 512, i = ix2 t h := ⟨i 0, i 1, funext fun a => by fin_cases a <;> rfl⟩
  refine (Cert.KernelIdeal.Value.out_apply m x e (fun k d h => W (ix3 k d h)) (fun c => ?_) (fun c t => ?_) (fun c k d h => ?_) c t h).trans
    (Cert.ReferenceIdeal.Value.result_apply x idx e hi W t h).symm
  · exact (Cert.KernelIdeal.Value.x_read m c).trans (hm c).1
  · exact (congrFun ((Cert.KernelIdeal.Value.idx_read m c).trans (hm c).2.1) _).trans (hi t)
  · refine (congrFun ((Cert.KernelIdeal.Value.w_read m c).trans (hm c).2.2) _).trans ?_
    refine congrArg W (funext fun a => Fin.ext ?_)
    fin_cases a
    · show c.val * 2 + k.val = 2 * c.val + k.val
      omega
    · rfl
    · rfl

/-- In exact arithmetic the kernel leaves the reference's result on every device. -/
theorem algebraic : Cert.algebraic_KernelIdeal_ReferenceIdeal_pre_in_range_KernelIdeal := fun m g m' g' hpre hargs => by
  obtain ⟨e, he⟩ := Cert.Pre_in_range_KernelIdeal.Value.experts _ _ _ _ (hpre (0 : Dev Cert.KernelIdeal.nD))
  have hi : ∀ t : Fin 512, (show IVec Cert.ReferenceIdeal.S512x1 32 from m' (((0 : Dev Cert.ReferenceIdeal.nD).tc : Thread Cert.ReferenceIdeal.nD Cert.ReferenceIdeal.τ).loc Cert.ReferenceIdeal.main_arg2)) (ix2 t 0) = BitVec.ofNat 32 (e t).val :=
    fun t => (congrFun (hargs 0).2.2.1.symm _).trans (he t)
  refine ⟨Cert.ReferenceIdeal.Value.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact θ_run_mono (Cert.KernelIdeal.Run.run_main (F := Ideal) m g) fun _ h c =>
      ⟨((h.1 c).1 3).trans ((Cert.KernelIdeal.Value.final_out m g c).trans
          (out_eq_result m _ _ _ e hi (fun c => ⟨(hargs c).1, (hargs c).2.2.1, (hargs c).2.2.2⟩) c)),
        ((h.1 c).1 0).trans (Cert.KernelIdeal.Run.finalA_in m g c 0 (by decide)), (h.1 c).2,
        ((h.1 c).1 1).trans (Cert.KernelIdeal.Run.finalA_in m g c 1 (by decide)),
        ((h.1 c).1 2).trans (Cert.KernelIdeal.Run.finalA_in m g c 2 (by decide))⟩
  · exact θ_run_mono (Cert.ReferenceIdeal.Value.run (F := Ideal) m' g') fun _ h => h 0

theorem claim : Cert.Claim :=
  ⟨Cert.Kernel.Gen.facts, Cert.KernelIdeal.Gen.facts, Cert.ReferenceIdeal.Gen.facts,
    Cert.Pre_in_range_KernelIdeal.Gen.facts, Cert.Pre_in_range_ReferenceIdeal.Gen.facts,
    frame_kernel, frame_kernelIdeal, fun m ρ _ => frame_kernelIdeal m ρ trivial, frame_referenceIdeal,
    fun m ρ _ => frame_referenceIdeal m ρ trivial, trivial, algebraic⟩

end Cert.Proof

end
